-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_open_logit_above_threshold [hPre_open_logit_above_threshold : Cert.Pre_open_logit_above_threshold.Facts] (m : (ℓ : Loc Cert.KernelIdeal.nD Cert.KernelIdeal.τ Cert.KernelIdeal.sig) → Buf (Elt Ideal) ℓ) : Prop :=
  ∀ c : Dev Cert.KernelIdeal.nD,
    (Cert.Pre_open_logit_above_threshold.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_open_logit_above_threshold [hPre_open_logit_above_threshold : Cert.Pre_open_logit_above_threshold.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_open_logit_above_threshold.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_open_logit_above_threshold [hKernelIdeal : Cert.KernelIdeal.Facts] [hPre_open_logit_above_threshold : Cert.Pre_open_logit_above_threshold.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_open_logit_above_threshold m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_open_logit_above_threshold [hReferenceIdeal : Cert.ReferenceIdeal.Facts] [hPre_open_logit_above_threshold : Cert.Pre_open_logit_above_threshold.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_open_logit_above_threshold m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "masked" .f32 0xCE6E6B28#32 ⊥

def algebraic_KernelIdeal_ReferenceIdeal_pre_open_logit_above_threshold [hKernelIdeal : Cert.KernelIdeal.Facts] [hReferenceIdeal : Cert.ReferenceIdeal.Facts] [hPre_open_logit_above_threshold : Cert.Pre_open_logit_above_threshold.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_open_logit_above_threshold m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_open_logit_above_threshold : Cert.Pre_open_logit_above_threshold.Facts),
    quiescent_Kernel (hKernel := hKernel)
    ∧ quiescent_KernelIdeal (hKernelIdeal := hKernelIdeal)
    ∧ quiescent_KernelIdeal_pre_open_logit_above_threshold (hKernelIdeal := hKernelIdeal) (hPre_open_logit_above_threshold := hPre_open_logit_above_threshold)
    ∧ quiescent_ReferenceIdeal (hReferenceIdeal := hReferenceIdeal)
    ∧ quiescent_ReferenceIdeal_pre_open_logit_above_threshold (hReferenceIdeal := hReferenceIdeal) (hPre_open_logit_above_threshold := hPre_open_logit_above_threshold)
    ∧ preserves_Kernel_KernelIdeal
    ∧ algebraic_KernelIdeal_ReferenceIdeal_pre_open_logit_above_threshold (hKernelIdeal := hKernelIdeal) (hReferenceIdeal := hReferenceIdeal) (hPre_open_logit_above_threshold := hPre_open_logit_above_threshold)
-- ==== Pre_open_logit_above_threshold.lean ====
abbrev S128x2048x512 : Shape := ⟨3, ![128, 2048, 512]⟩
abbrev S128x2048 : Shape := ⟨2, ![128, 2048]⟩
abbrev S8 : Shape := ⟨1, ![8]⟩
abbrev S512x8 : Shape := ⟨2, ![512, 8]⟩
abbrev S64x1 : Shape := ⟨2, ![64, 1]⟩
abbrev S1 : Shape := ⟨1, ![1]⟩
abbrev S512 : Shape := ⟨1, ![512]⟩
abbrev S_ : Shape := ⟨0, ![]⟩
abbrev S128x2048x8 : Shape := ⟨3, ![128, 2048, 8]⟩
abbrev S1x1x8 : Shape := ⟨3, ![1, 1, 8]⟩
abbrev S128x2048x1 : Shape := ⟨3, ![128, 2048, 1]⟩
abbrev S128x8 : Shape := ⟨2, ![128, 8]⟩
abbrev S128 : Shape := ⟨1, ![128]⟩
abbrev S128x1 : Shape := ⟨2, ![128, 1]⟩

class Facts : Prop where
  bcast_S_S8 : S_.BroadcastsInDim S8 (![] : Fin 0 → Fin S8.rank)
  bcast_S8_S1x1x8_2 : S8.BroadcastsInDim S1x1x8 (![2] : Fin 1 → Fin S1x1x8.rank)
  bcast_S1x1x8_S128x2048x8_0_1_2 : S1x1x8.BroadcastsInDim S128x2048x8 (![0, 1, 2] : Fin 3 → Fin S128x2048x8.rank)
  bcast_S_S128x2048x8 : S_.BroadcastsInDim S128x2048x8 (![] : Fin 0 → Fin S128x2048x8.rank)
  bcast_S128x2048_S128x2048x1_0_1 : S128x2048.BroadcastsInDim S128x2048x1 (![0, 1] : Fin 2 → Fin S128x2048x1.rank)
  bcast_S128x2048x1_S128x2048x8_0_1_2 : S128x2048x1.BroadcastsInDim S128x2048x8 (![0, 1, 2] : Fin 3 → Fin S128x2048x8.rank)
  reducesTo_S128x2048x8_S128x8_d1 : S128x2048x8.ReducesTo [1] S128x8
  h_S_ : 0 < S_.numel
  reducesTo_S128x2048_S128_d1 : S128x2048.ReducesTo [1] S128
  bcast_S128_S128x1_0 : S128.BroadcastsInDim S128x1 (![0] : Fin 1 → Fin S128x1.rank)
  bcast_S128x1_S128x8_0_1 : S128x1.BroadcastsInDim S128x8 (![0, 1] : Fin 2 → Fin S128x8.rank)
  dot_S128x2048x512_S512x8_S128x2048x8_2_0_01_1_n_n_wf : DotDims.WF S128x2048x512 S512x8 S128x2048x8 [2] [0] [0, 1] [1] [] []

variable [Facts]

def dot_S128x2048x512_S512x8_S128x2048x8_2_0_01_1_n_n : DotDims S128x2048x512 S512x8 S128x2048x8 where
  lhsContracting := [2]
  rhsContracting := [0]
  lhsNonContracting := [0, 1]
  rhsNonContracting := [1]
  lhsBatch := []
  rhsBatch := []
  wf := dot_S128x2048x512_S512x8_S128x2048x8_2_0_01_1_n_n_wf
def fn_part1 {F : FTy → Type} [FloatOps F] (main_arg1 : IVec S128x2048 1) (main_v20 : IVec S128x2048x8 1) : IVec S128x8 1 :=
  let main_c : IVec S_ 1 := constantI S_ 1 0#1
  let main_v21 : IVec S128x8 1 := (fun x v => Host.reduce IntOp.ori x v reducesTo_S128x2048x8_S128x8_d1 h_S_) main_v20 main_c
  let main_c_2 : IVec S_ 1 := constantI S_ 1 0#1
  let main_v22 : IVec S128 1 := (fun x v => Host.reduce IntOp.ori x v reducesTo_S128x2048_S128_d1 h_S_) main_arg1 main_c_2
  let main_v23 : IVec S128x1 1 := broadcastInDim S128x1 ![0] bcast_S128_S128x1_0 main_v22
  let main_v24 : IVec S128x1 1 := noti main_v23
  let main_v25 : IVec S128x8 1 := broadcastInDim S128x8 ![0, 1] bcast_S128x1_S128x8_0_1 main_v24
  let main_v26 : IVec S128x8 1 := ori main_v21 main_v25
  main_v26

def fn {F : FTy → Type} [FloatOps F] (main_arg0 : FVec F S128x2048x512 .f32) (main_arg1 : IVec S128x2048 1) (main_arg2 : FVec F S8 .f32) (main_arg3 : FVec F S512x8 .f32) (main_arg4 : FVec F S8 .f32) (main_arg5 : FVec F S64x1 .f32) (main_arg6 : FVec F S1 .f32) (main_arg7 : FVec F S512 .f32) : IVec S128x8 1 :=
  let main_cst : FVec F S_ .f32 := constant S_ .f32 0x00000000#32
  let main_v0 : FVec F S8 .f32 := broadcastInDim S8 ![] bcast_S_S8 main_cst
  let main_v1 : FVec F S8 .f32 := maximumf main_arg2 main_v0
  let main_v2 : FVec F S8 .f32 := Host.absf main_arg2
  let main_v3 : FVec F S8 .f32 := Host.negf main_v2
  let main_v4 : FVec F S8 .f32 := Host.exp main_v3
  let main_v5 : FVec F S8 .f32 := Host.log1p main_v4
  let main_v6 : FVec F S8 .f32 := addf main_v1 main_v5
  let main_cst_0 : FVec F S_ .f32 := constant S_ .f32 0x3E99999A#32
  let main_v7 : FVec F S8 .f32 := broadcastInDim S8 ![] bcast_S_S8 main_cst_0
  let main_v8 : FVec F S8 .f32 := addf main_v6 main_v7
  let main_v9 : FVec F S128x2048x8 .f32 := (fun l r => Host.dotGeneral dot_S128x2048x512_S512x8_S128x2048x8_2_0_01_1_n_n none l r) main_arg0 main_arg3
  let main_v10 : FVec F S1x1x8 .f32 := broadcastInDim S1x1x8 ![2] bcast_S8_S1x1x8_2 main_arg4
  let main_v11 : FVec F S128x2048x8 .f32 := broadcastInDim S128x2048x8 ![0, 1, 2] bcast_S1x1x8_S128x2048x8_0_1_2 main_v10
  let main_v12 : FVec F S128x2048x8 .f32 := addf main_v9 main_v11
  let main_v13 : FVec F S1x1x8 .f32 := broadcastInDim S1x1x8 ![2] bcast_S8_S1x1x8_2 main_v8
  let main_v14 : FVec F S128x2048x8 .f32 := broadcastInDim S128x2048x8 ![0, 1, 2] bcast_S1x1x8_S128x2048x8_0_1_2 main_v13
  let main_v15 : FVec F S128x2048x8 .f32 := Host.divf main_v12 main_v14
  let main_cst_1 : FVec F S_ .f32 := constant S_ .f32 0xCCBEBC20#32
  let main_v16 : FVec F S128x2048x8 .f32 := broadcastInDim S128x2048x8 ![] bcast_S_S128x2048x8 main_cst_1
  let main_v17 : IVec S128x2048x8 1 := cmpf .ogt main_v15 main_v16
  let main_v18 : IVec S128x2048x1 1 := broadcastInDim S128x2048x1 ![0, 1] bcast_S128x2048_S128x2048x1_0_1 main_arg1
  let main_v19 : IVec S128x2048x8 1 := broadcastInDim S128x2048x8 ![0, 1, 2] bcast_S128x2048x1_S128x2048x8_0_1_2 main_v18
  let main_v20 : IVec S128x2048x8 1 := andi main_v17 main_v19
  fn_part1 (F := F) main_arg1 main_v20
-- ==== Kernel.lean ====
abbrev S128x2048x512 : Shape := ⟨3, ![128, 2048, 512]⟩
abbrev S128x2048 : Shape := ⟨2, ![128, 2048]⟩
abbrev S8 : Shape := ⟨1, ![8]⟩
abbrev S512x8 : Shape := ⟨2, ![512, 8]⟩
abbrev S64x1 : Shape := ⟨2, ![64, 1]⟩
abbrev S1 : Shape := ⟨1, ![1]⟩
abbrev S512 : Shape := ⟨1, ![512]⟩
abbrev S_ : Shape := ⟨0, ![]⟩
abbrev S1x8 : Shape := ⟨2, ![1, 8]⟩
abbrev S8x1 : Shape := ⟨2, ![8, 1]⟩
abbrev S32x1x8192 : Shape := ⟨3, ![32, 1, 8192]⟩
abbrev S8x8 : Shape := ⟨2, ![8, 8]⟩
abbrev S8x8x1 : Shape := ⟨3, ![8, 8, 1]⟩
abbrev S64 : Shape := ⟨1, ![64]⟩
abbrev S1x1x64 : Shape := ⟨3, ![1, 1, 64]⟩
abbrev S8x8x64 : Shape := ⟨3, ![8, 8, 64]⟩
abbrev S8x512 : Shape := ⟨2, ![8, 512]⟩
abbrev S1x1 : Shape := ⟨2, ![1, 1]⟩
abbrev S1x512 : Shape := ⟨2, ![1, 512]⟩
abbrev S32x4x512 : Shape := ⟨3, ![32, 4, 512]⟩
abbrev S32x4x8 : Shape := ⟨3, ![32, 4, 8]⟩
abbrev S4x2048x512 : Shape := ⟨3, ![4, 2048, 512]⟩
abbrev S1x1x8192 : Shape := ⟨3, ![1, 1, 8192]⟩
abbrev S1x4x512 : Shape := ⟨3, ![1, 4, 512]⟩
abbrev S1x4x8 : Shape := ⟨3, ![1, 4, 8]⟩
abbrev S8192x512 : Shape := ⟨2, ![8192, 512]⟩
abbrev S8x8192 : Shape := ⟨2, ![8, 8192]⟩
abbrev S1x8192 : Shape := ⟨2, ![1, 8192]⟩
abbrev S1x2048x512 : Shape := ⟨3, ![1, 2048, 512]⟩
abbrev S2048x512 : Shape := ⟨2, ![2048, 512]⟩
abbrev S8x2048 : Shape := ⟨2, ![8, 2048]⟩
abbrev S1x1x512 : Shape := ⟨3, ![1, 1, 512]⟩
abbrev S1x1x8 : Shape := ⟨3, ![1, 1, 8]⟩
abbrev S128x512 : Shape := ⟨2, ![128, 512]⟩
abbrev S128x8 : Shape := ⟨2, ![128, 8]⟩

abbrev nBuf : Space → Nat
  | .hbm => 59
  | .vmem => 15
  | .smem => 0
  | _ => 0

abbrev bufTy : (tb : Table) → Fin (tcTables nBuf tb) → BufTy
  | .hbm, ⟨0, _⟩ => ⟨S128x2048x512, .f32⟩
  | .hbm, ⟨1, _⟩ => ⟨S128x2048, .i1⟩
  | .hbm, ⟨2, _⟩ => ⟨S8, .f32⟩
  | .hbm, ⟨3, _⟩ => ⟨S512x8, .f32⟩
  | .hbm, ⟨4, _⟩ => ⟨S8, .f32⟩
  | .hbm, ⟨5, _⟩ => ⟨S64x1, .f32⟩
  | .hbm, ⟨6, _⟩ => ⟨S1, .f32⟩
  | .hbm, ⟨7, _⟩ => ⟨S512, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .i1⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S1x8, .f32⟩
  | .hbm, ⟨26, _⟩ => ⟨S512x8, .f32⟩
  | .hbm, ⟨27, _⟩ => ⟨S512x8, .f32⟩
  | .hbm, ⟨28, _⟩ => ⟨S8, .f32⟩
  | .hbm, ⟨29, _⟩ => ⟨S8x1, .f32⟩
  | .hbm, ⟨30, _⟩ => ⟨S_, .f32⟩
  | .hbm, ⟨31, _⟩ => ⟨S_, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S128x2048, .f32⟩
  | .hbm, ⟨36, _⟩ => ⟨S32x1x8192, .f32⟩
  | .hbm, ⟨37, _⟩ => ⟨S8x8, .i32⟩
  | .hbm, ⟨38, _⟩ => ⟨S8x8, .i32⟩
  | .hbm, ⟨39, _⟩ => ⟨S_, .i32⟩
  | .hbm, ⟨40, _⟩ => ⟨S8x8, .i32⟩
  | .hbm, ⟨41, _⟩ => ⟨S8x8, .i32⟩
  | .hbm, ⟨42, _⟩ => ⟨S8x8, .i1⟩
  | .hbm, ⟨43, _⟩ => ⟨S8x8, .f32⟩
  | .hbm, ⟨44, _⟩ => ⟨S8x8x1, .f32⟩
  | .hbm, ⟨45, _⟩ => ⟨S64, .f32⟩
  | .hbm, ⟨46, _⟩ => ⟨S1x1x64, .f32⟩
  | .hbm, ⟨47, _⟩ => ⟨S8x8x64, .f32⟩
  | .hbm, ⟨48, _⟩ => ⟨S8x8x64, .f32⟩
  | .hbm, ⟨49, _⟩ => ⟨S8x8x64, .f32⟩
  | .hbm, ⟨50, _⟩ => ⟨S8x512, .f32⟩
  | .hbm, ⟨51, _⟩ => ⟨S1x1, .f32⟩
  | .hbm, ⟨52, _⟩ => ⟨S1x512, .f32⟩
  | .hbm, ⟨53, _⟩ => ⟨S32x4x512, .f32⟩
  | .hbm, ⟨54, _⟩ => ⟨S32x4x512, .f32⟩
  | .hbm, ⟨55, _⟩ => ⟨S32x4x8, .f32⟩
  | .hbm, ⟨56, _⟩ => ⟨S128x512, .f32⟩
  | .hbm, ⟨57, _⟩ => ⟨S128x512, .f32⟩
  | .hbm, ⟨58, _⟩ => ⟨S128x8, .f32⟩
  | .local _ .vmem, ⟨0, _⟩ => ⟨S4x2048x512, .f32⟩
  | .local _ .vmem, ⟨1, _⟩ => ⟨S4x2048x512, .f32⟩
  | .local _ .vmem, ⟨2, _⟩ => ⟨S1x1x8192, .f32⟩
  | .local _ .vmem, ⟨3, _⟩ => ⟨S1x1x8192, .f32⟩
  | .local _ .vmem, ⟨4, _⟩ => ⟨S512x8, .f32⟩
  | .local _ .vmem, ⟨5, _⟩ => ⟨S8x1, .f32⟩
  | .local _ .vmem, ⟨6, _⟩ => ⟨S8x512, .f32⟩
  | .local _ .vmem, ⟨7, _⟩ => ⟨S1x1, .f32⟩
  | .local _ .vmem, ⟨8, _⟩ => ⟨S1x512, .f32⟩
  | .local _ .vmem, ⟨9, _⟩ => ⟨S1x4x512, .f32⟩
  | .local _ .vmem, ⟨10, _⟩ => ⟨S1x4x512, .f32⟩
  | .local _ .vmem, ⟨11, _⟩ => ⟨S1x4x512, .f32⟩
  | .local _ .vmem, ⟨12, _⟩ => ⟨S1x4x512, .f32⟩
  | .local _ .vmem, ⟨13, _⟩ => ⟨S1x4x8, .f32⟩
  | .local _ .vmem, ⟨14, _⟩ => ⟨S1x4x8, .f32⟩
  | _, _ => ⟨S128x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26_0 : Ref sig .tc := ⟨.hbm, 53, rfl⟩
abbrev main_v26_1 : Ref sig .tc := ⟨.hbm, 54, rfl⟩
abbrev main_v26_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "masked" => some ⊥
  | _ => none
-- ==== ReferenceIdeal.lean ====
abbrev S128x2048x512 : Shape := ⟨3, ![128, 2048, 512]⟩
abbrev S128x2048 : Shape := ⟨2, ![128, 2048]⟩
abbrev S8 : Shape := ⟨1, ![8]⟩
abbrev S512x8 : Shape := ⟨2, ![512, 8]⟩
abbrev S64x1 : Shape := ⟨2, ![64, 1]⟩
abbrev S1 : Shape := ⟨1, ![1]⟩
abbrev S512 : Shape := ⟨1, ![512]⟩
abbrev S128x2048x8x64 : Shape := ⟨4, ![128, 2048, 8, 64]⟩
abbrev S_ : Shape := ⟨0, ![]⟩
abbrev S128x2048x8 : Shape := ⟨3, ![128, 2048, 8]⟩
abbrev S1x1x8 : Shape := ⟨3, ![1, 1, 8]⟩
abbrev S128x2048x1 : Shape := ⟨3, ![128, 2048, 1]⟩
abbrev S128x8 : Shape := ⟨2, ![128, 8]⟩
abbrev S128x1x8 : Shape := ⟨3, ![128, 1, 8]⟩
abbrev S128x8x64 : Shape := ⟨3, ![128, 8, 64]⟩
abbrev S128x8x1 : Shape := ⟨3, ![128, 8, 1]⟩
abbrev S1x1x1 : Shape := ⟨3, ![1, 1, 1]⟩
abbrev S128 : Shape := ⟨1, ![128]⟩
abbrev S128x1x1 : Shape := ⟨3, ![128, 1, 1]⟩
abbrev S128x512 : Shape := ⟨2, ![128, 512]⟩
abbrev S128x1 : Shape := ⟨2, ![128, 1]⟩
abbrev S1x512 : Shape := ⟨2, ![1, 512]⟩
abbrev S1x128x1x8x1x1 : Shape := ⟨6, ![1, 128, 1, 8, 1, 1]⟩
abbrev S1x128x1x8x64x1 : Shape := ⟨6, ![1, 128, 1, 8, 64, 1]⟩

abbrev nBuf : Space → Nat
  | .hbm => 99
  | .vmem => 0
  | .smem => 0
  | _ => 0

abbrev bufTy : (tb : Table) → Fin (tcTables nBuf tb) → BufTy
  | .hbm, ⟨0, _⟩ => ⟨S128x2048x512, .f32⟩
  | .hbm, ⟨1, _⟩ => ⟨S128x2048, .i1⟩
  | .hbm, ⟨2, _⟩ => ⟨S8, .f32⟩
  | .hbm, ⟨3, _⟩ => ⟨S512x8, .f32⟩
  | .hbm, ⟨4, _⟩ => ⟨S8, .f32⟩
  | .hbm, ⟨5, _⟩ => ⟨S64x1, .f32⟩
  | .hbm, ⟨6, _⟩ => ⟨S1, .f32⟩
  | .hbm, ⟨7, _⟩ => ⟨S512, .f32⟩
  | .hbm, ⟨8, _⟩ => ⟨S128x2048x8x64, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8, .i1⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S128x2048x8, .f32⟩
  | .hbm, ⟨27, _⟩ => ⟨S1x1x8, .f32⟩
  | .hbm, ⟨28, _⟩ => ⟨S128x2048x8, .f32⟩
  | .hbm, ⟨29, _⟩ => ⟨S128x2048x8, .f32⟩
  | .hbm, ⟨30, _⟩ => ⟨S1x1x8, .f32⟩
  | .hbm, ⟨31, _⟩ => ⟨S128x2048x8, .f32⟩
  | .hbm, ⟨32, _⟩ => ⟨S128x2048x8, .f32⟩
  | .hbm, ⟨33, _⟩ => ⟨S128x2048x1, .i1⟩
  | .hbm, ⟨34, _⟩ => ⟨S_, .f32⟩
  | .hbm, ⟨35, _⟩ => ⟨S_, .f32⟩
  | .hbm, ⟨36, _⟩ => ⟨S128x2048x8, .i1⟩
  | .hbm, ⟨37, _⟩ => ⟨S128x2048x8, .f32⟩
  | .hbm, ⟨38, _⟩ => ⟨S128x2048x8, .f32⟩
  | .hbm, ⟨39, _⟩ => ⟨S_, .f32⟩
  | .hbm, ⟨40, _⟩ => ⟨S128x8, .f32⟩
  | .hbm, ⟨41, _⟩ => ⟨S128x1x8, .f32⟩
  | .hbm, ⟨42, _⟩ => ⟨S128x2048x8, .f32⟩
  | .hbm, ⟨43, _⟩ => ⟨S128x2048x8, .f32⟩
  | .hbm, ⟨44, _⟩ => ⟨S128x2048x8, .f32⟩
  | .hbm, ⟨45, _⟩ => ⟨S_, .f32⟩
  | .hbm, ⟨46, _⟩ => ⟨S_, .f32⟩
  | .hbm, ⟨47, _⟩ => ⟨S128x2048x8, .i1⟩
  | .hbm, ⟨48, _⟩ => ⟨S128x2048x8, .f32⟩
  | .hbm, ⟨49, _⟩ => ⟨S128x2048x8, .f32⟩
  | .hbm, ⟨50, _⟩ => ⟨S_, .f32⟩
  | .hbm, ⟨51, _⟩ => ⟨S128x8, .f32⟩
  | .hbm, ⟨52, _⟩ => ⟨S128x1x8, .f32⟩
  | .hbm, ⟨53, _⟩ => ⟨S_, .f32⟩
  | .hbm, ⟨54, _⟩ => ⟨S128x1x8, .f32⟩
  | .hbm, ⟨55, _⟩ => ⟨S128x1x8, .f32⟩
  | .hbm, ⟨56, _⟩ => ⟨S128x2048x8, .f32⟩
  | .hbm, ⟨57, _⟩ => ⟨S128x2048x8, .f32⟩
  | .hbm, ⟨58, _⟩ => ⟨S128x8x64, .f32⟩
  | .hbm, ⟨59, _⟩ => ⟨S128x8x1, .f32⟩
  | .hbm, ⟨60, _⟩ => ⟨S1x1x1, .f32⟩
  | .hbm, ⟨61, _⟩ => ⟨S128x8x1, .f32⟩
  | .hbm, ⟨62, _⟩ => ⟨S128x8x1, .f32⟩
  | .hbm, ⟨63, _⟩ => ⟨S_, .i1⟩
  | .hbm, ⟨64, _⟩ => ⟨S128, .i1⟩
  | .hbm, ⟨65, _⟩ => ⟨S128x1x1, .i1⟩
  | .hbm, ⟨66, _⟩ => ⟨S128x8x1, .f32⟩
  | .hbm, ⟨67, _⟩ => ⟨S128x8x1, .f32⟩
  | .hbm, ⟨68, _⟩ => ⟨S_, .f32⟩
  | .hbm, ⟨69, _⟩ => ⟨S128x8x1, .f32⟩
  | .hbm, ⟨70, _⟩ => ⟨S128x8x1, .f32⟩
  | .hbm, ⟨71, _⟩ => ⟨S_, .f32⟩
  | .hbm, ⟨72, _⟩ => ⟨S128x8x1, .f32⟩
  | .hbm, ⟨73, _⟩ => ⟨S128x8x1, .f32⟩
  | .hbm, ⟨74, _⟩ => ⟨S128x1x1, .f32⟩
  | .hbm, ⟨75, _⟩ => ⟨S128x8x1, .f32⟩
  | .hbm, ⟨76, _⟩ => ⟨S128x8x1, .f32⟩
  | .hbm, ⟨77, _⟩ => ⟨S128x512, .f32⟩
  | .hbm, ⟨78, _⟩ => ⟨S128x512, .f32⟩
  | .hbm, ⟨79, _⟩ => ⟨S_, .f32⟩
  | .hbm, ⟨80, _⟩ => ⟨S128, .f32⟩
  | .hbm, ⟨81, _⟩ => ⟨S128x1, .f32⟩
  | .hbm, ⟨82, _⟩ => ⟨S_, .f32⟩
  | .hbm, ⟨83, _⟩ => ⟨S128x1, .f32⟩
  | .hbm, ⟨84, _⟩ => ⟨S128x1, .f32⟩
  | .hbm, ⟨85, _⟩ => ⟨S_, .f32⟩
  | .hbm, ⟨86, _⟩ => ⟨S128x1, .f32⟩
  | .hbm, ⟨87, _⟩ => ⟨S128x1, .f32⟩
  | .hbm, ⟨88, _⟩ => ⟨S128x1, .f32⟩
  | .hbm, ⟨89, _⟩ => ⟨S128x512, .f32⟩
  | .hbm, ⟨90, _⟩ => ⟨S128x512, .f32⟩
  | .hbm, ⟨91, _⟩ => ⟨S1x512, .f32⟩
  | .hbm, ⟨92, _⟩ => ⟨S128x512, .f32⟩
  | .hbm, ⟨93, _⟩ => ⟨S128x512, .f32⟩
  | .hbm, ⟨94, _⟩ => ⟨S1x128x1x8x1x1, .f32⟩
  | .hbm, ⟨95, _⟩ => ⟨S1x128x1x8x64x1, .f32⟩
  | .hbm, ⟨96, _⟩ => ⟨S128x8x64, .f32⟩
  | .hbm, ⟨97, _⟩ => ⟨S128x512, .f32⟩
  | .hbm, ⟨98, _⟩ => ⟨S128x8, .f32⟩
  | _, _ => ⟨S128x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v18 : Ref sig .tc := ⟨.hbm, 49, rfl⟩
abbrev main_cst_3 : Ref sig .tc := ⟨.hbm, 50, rfl⟩
abbrev main_v19 : Ref sig .tc := ⟨.hbm, 51, rfl⟩
abbrev main_v20 : Ref sig .tc := ⟨.hbm, 52, rfl⟩
abbrev main_cst_4 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_5 : Ref sig .tc := ⟨.hbm, 68, rfl⟩
abbrev main_v34 : Ref sig .tc := ⟨.hbm, 69, rfl⟩
abbrev main_v35 : Ref sig .tc := ⟨.hbm, 70, rfl⟩
abbrev main_cst_6 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_7 : Ref sig .tc := ⟨.hbm, 79, rfl⟩
abbrev main_v43 : Ref sig .tc := ⟨.hbm, 80, rfl⟩
abbrev main_v44 : Ref sig .tc := ⟨.hbm, 81, rfl⟩
abbrev main_cst_8 : Ref sig .tc := ⟨.hbm, 82, rfl⟩
abbrev main_v45 : Ref sig .tc := ⟨.hbm, 83, rfl⟩
abbrev main_v46 : Ref sig .tc := ⟨.hbm, 84, rfl⟩
abbrev main_cst_9 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩

abbrev nD : Nat := 1
abbrev τ : Topo := Topo.v7x

variable {F : FTy → Type} [FloatOps F]
-- ==== Proof.Extended.lean ====
/-
  Facts about the extended reals that both programs' arithmetic rests on: what the constants are, division by a positive
  number, sums under such a division, and a row of exponentials with some positions masked.
-/
module

public import Idealize.ShloMosaic.Lib.Pointwise
public import Idealize.ShloMosaic.Lib.Pipeline.ValueKit

@[expose] public section

noncomputable section

namespace Cert.Proof.Extended

open Idealize.ShloMosaic
open Finset

/-! ## The constants -/

/-- The least temperature is positive. -/
theorem leastTemp_pos : 0 < Ideal.ofBits .f32 0x3E99999A#32 := by
  have h : Ideal.ofBits .f32 0x3E99999A#32 = ((10066330 * (2 : ℝ) ^ (-25 : ℤ) : ℝ) : EReal) := by
    simp [Ideal.ofBits, Ideal.ieee, -EReal.coe_mul]
  rw [h]; exact EReal.coe_pos.mpr (by positivity)

/-- The number added to a divisor is positive. -/
theorem eps_pos : 0 < Ideal.ofBits .f32 0x358637BD#32 := by
  have h : Ideal.ofBits .f32 0x358637BD#32 = ((8796093 * (2 : ℝ) ^ (-43 : ℤ) : ℝ) : EReal) := by
    simp [Ideal.ofBits, Ideal.ieee, -EReal.coe_mul]
  rw [h]; exact EReal.coe_pos.mpr (by positivity)

/-- The row length of the mean square is positive. -/
theorem rowLength_pos : 0 < Ideal.ofBits .f32 0x44000000#32 := by
  have h : Ideal.ofBits .f32 0x44000000#32 = ((8388608 * (2 : ℝ) ^ (-14 : ℤ) : ℝ) : EReal) := by
    simp [Ideal.ofBits, Ideal.ieee, -EReal.coe_mul]
  rw [h]; exact EReal.coe_pos.mpr (by positivity)

/-- The reference's masked logit lies below the threshold. -/
theorem masked_lt_threshold : Ideal.ofBits .f32 0xCE6E6B28#32 < Ideal.ofBits .f32 0xCCBEBC20#32 := by
  have h : Ideal.ofBits .f32 0xCE6E6B28#32 = ((-15625000 * (2 : ℝ) ^ (6 : ℤ) : ℝ) : EReal) := by
    simp [Ideal.ofBits, Ideal.ieee, -EReal.coe_mul, -EReal.coe_neg]
  have h' : Ideal.ofBits .f32 0xCCBEBC20#32 = ((-12500000 * (2 : ℝ) ^ (3 : ℤ) : ℝ) : EReal) := by
    simp [Ideal.ofBits, Ideal.ieee, -EReal.coe_mul, -EReal.coe_neg]
  rw [h, h']; exact EReal.coe_lt_coe_iff.mpr (by norm_num)

/-- The maximum starts at negative infinity. -/
theorem start_eq_bot : Ideal.ofBits .f32 0xFF800000#32 = ⊥ := by
  simp [Ideal.ofBits, Ideal.ieee]

/-! ## Division by a positive number -/

/-- Division by a positive number is multiplication by its reciprocal. -/
theorem div_of_pos {y : EReal} (hy : 0 < y) (x : EReal) : Ideal.div x y = x * y⁻¹ := by
  simp [Ideal.div, hy.ne']

/-- The reciprocal of a positive number is not infinite. -/
theorem inv_ne_top {y : EReal} (hy : 0 < y) : y⁻¹ ≠ ⊤ := by
  induction y with
  | bot => simp
  | top => simp
  | coe r => rw [← EReal.coe_inv]; exact EReal.coe_ne_top _

/-- A sum times a nonnegative number that is not infinite is the sum of the products. -/
theorem sum_mul {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [sum_insert ha, sum_insert ha, EReal.right_distrib_of_nonneg_of_ne_top h0 ht, ih]

/-- The logits: dividing the weights and the bias by a positive temperature is dividing the logit. -/
theorem div_logit {n : ℕ} (w x : Fin n → EReal) (b : EReal) {τ : EReal} (hτ : 0 < τ) :
    ∑ k, Ideal.div (w k) τ * x k + Ideal.div b τ = Ideal.div (∑ k, x k * w k + b) τ := by
  have h0 : 0 ≤ τ⁻¹ := EReal.inv_nonneg_of_nonneg hτ.le
  have ht := inv_ne_top hτ
  simp only [div_of_pos hτ]
  rw [EReal.right_distrib_of_nonneg_of_ne_top h0 ht, sum_mul _ _ h0 ht]
  congr 1
  exact sum_congr rfl fun k _ => by rw [mul_comm (x k), mul_assoc, mul_comm τ⁻¹, ← mul_assoc]

/-- The pooled row: dividing every weight by a positive number is dividing the weighted sum. -/
theorem div_weighted {n : ℕ} (p x : Fin n → EReal) {y : EReal} (hy : 0 < y) :
    ∑ t, Ideal.div (p t) y * x t = Ideal.div (∑ t, p t * x t) y := by
  have h0 : 0 ≤ y⁻¹ := EReal.inv_nonneg_of_nonneg hy.le
  have ht := inv_ne_top hy
  simp only [div_of_pos hy]
  rw [sum_mul _ _ h0 ht]
  exact sum_congr rfl fun k _ => by rw [mul_assoc, mul_comm y⁻¹, ← mul_assoc]

/-- An exponential is not negative. -/
theorem exp_nonneg (x : EReal) : 0 ≤ Ideal.exp x := by
  induction x with
  | bot => simp
  | top => simp
  | coe r => rw [Ideal.exp_coe]; exact EReal.coe_nonneg.mpr (Real.exp_nonneg r)

/-- The logarithm of one more than a nonnegative number is not negative. -/
theorem log1p_nonneg {x : EReal} (hx : 0 ≤ x) : 0 ≤ Ideal.log1p x := by
  induction x with
  | bot => simp at hx
  | top => simp [Ideal.log1p, EReal.add_top_of_ne_bot (show (1 : EReal) ≠ ⊥ from EReal.coe_ne_bot 1)]
  | coe r =>
    have hr : 0 ≤ r := EReal.coe_nonneg.mp hx
    have h : (1 : EReal) + (r : EReal) = ((1 + r : ℝ) : EReal) := by rw [EReal.coe_add, EReal.coe_one]
    rw [Ideal.log1p, h, Ideal.log_coe, if_neg (by linarith)]
    exact EReal.coe_nonneg.mpr (Real.log_nonneg (by linarith))

/-- A square is not negative. -/
theorem mul_self_nonneg (x : EReal) : 0 ≤ x * x := by
  induction x with
  | bot => simp
  | top => simp
  | coe r => rw [← EReal.coe_mul]; exact EReal.coe_nonneg.mpr (_root_.mul_self_nonneg r)

/-- Multiplying by the reciprocal square root of a positive number is dividing by its square root. -/
theorem mul_rsqrt (v : EReal) {x : EReal} (hx : 0 < x) : v * Ideal.rsqrt x = Ideal.div v (Ideal.sqrt x) := by
  induction x with
  | bot => simp at hx
  | top => simp [Ideal.div]
  | coe r =>
    have hr : 0 < r := EReal.coe_pos.mp hx
    have hs : 0 < Real.sqrt r := Real.sqrt_pos.mpr hr
    rw [Ideal.rsqrt_coe, Ideal.sqrt_coe, if_neg hr.le.not_gt, if_neg hr.le.not_gt, if_neg hr.ne',
      div_of_pos (EReal.coe_pos.mpr hs), EReal.coe_inv]

/-- A mean of squares, with the small number added, is positive. -/
theorem meanSquare_pos {n : ℕ} (v : Fin n → EReal) :
    0 < Ideal.div (∑ d, v d * v d) (Ideal.ofBits .f32 0x44000000#32) + Ideal.ofBits .f32 0x358637BD#32 := by
  refine lt_of_lt_of_le eps_pos (le_add_of_nonneg_left ?_)
  rw [div_of_pos rowLength_pos]
  exact mul_nonneg (sum_nonneg fun d _ => mul_self_nonneg _) (EReal.inv_nonneg_of_nonneg rowLength_pos.le)

/-- The temperature `softplus a + 0.3`, as both programs compute it. -/
def temperature (a : EReal) : EReal :=
  (if a ≠ a then a else max a 0 + Ideal.log1p (Ideal.exp (-FloatOps.absf (F := Ideal) (φ := .f32) a)))
    + Ideal.ofBits .f32 0x3E99999A#32

/-- The temperature is positive. -/
theorem temperature_pos (a : EReal) : 0 < temperature a := by
  unfold temperature
  rw [if_neg (by simp)]
  refine lt_of_lt_of_le leastTemp_pos (le_add_of_nonneg_left (add_nonneg (le_max_right _ _) (log1p_nonneg (exp_nonneg _))))

/-! ## A row of logits with some positions masked -/

section Row
variable {n : ℕ} (z : Fin n → EReal) (o : Fin n → BitVec 1)

/-- The kernel's masked logit: the logit plus negative infinity times the mask's number, zero where open, one where masked. -/
def kernelMasked (t : Fin n) : EReal := z t + Scalar.select (o t) (0 : EReal) 1 * ⊥

/-- The reference's masked logit: the logit where open, a large negative number where masked. -/
def refMasked (t : Fin n) : EReal := Scalar.select (o t) (z t) (Ideal.ofBits .f32 0xCE6E6B28#32)

variable {z o}

theorem word_cases (w : BitVec 1) : w = 1#1 ∨ w = 0#1 := by revert w; decide

theorem kernelMasked_open {t : Fin n} (h : o t = 1#1) : kernelMasked z o t = z t := by
  simp [kernelMasked, Scalar.select, h]

theorem kernelMasked_closed {t : Fin n} (h : o t = 0#1) : kernelMasked z o t = ⊥ := by
  simp [kernelMasked, Scalar.select, h]

theorem refMasked_open {t : Fin n} (h : o t = 1#1) : refMasked z o t = z t := by
  simp [refMasked, Scalar.select, h]

theorem refMasked_closed {t : Fin n} (h : o t = 0#1) : refMasked z o t = Ideal.ofBits .f32 0xCE6E6B28#32 := by
  simp [refMasked, Scalar.select, h]

/-- A maximum over a row that has an open position above the threshold is the same under either masking. -/
theorem max_masked (ho : ∃ t, o t = 1#1 ∧ Ideal.ofBits .f32 0xCCBEBC20#32 < z t) :
    univ.fold max ⊥ (kernelMasked z o) = univ.fold max ⊥ (refMasked z o) := by
  obtain ⟨t0, h0, hz⟩ := ho
  refine le_antisymm ?_ ?_
  · refine (fold_max_le _).mpr ⟨bot_le, fun t _ => ?_⟩
    rcases word_cases (o t) with h | h
    · rw [kernelMasked_open h, ← refMasked_open (z := z) h]
      exact (le_fold_max _).mpr (.inr ⟨t, mem_univ _, le_rfl⟩)
    · rw [kernelMasked_closed h]; exact bot_le
  · refine (fold_max_le _).mpr ⟨bot_le, fun t _ => ?_⟩
    rcases word_cases (o t) with h | h
    · rw [refMasked_open h, ← kernelMasked_open (z := z) h]
      exact (le_fold_max _).mpr (.inr ⟨t, mem_univ _, le_rfl⟩)
    · rw [refMasked_closed h]
      refine (le_fold_max _).mpr (.inr ⟨t0, mem_univ _, ?_⟩)
      rw [kernelMasked_open h0]
      exact (masked_lt_threshold.trans hz).le

/-- The maximum of a row that has an open position above the threshold lies above it. -/
theorem threshold_lt_max (ho : ∃ t, o t = 1#1 ∧ Ideal.ofBits .f32 0xCCBEBC20#32 < z t) :
    Ideal.ofBits .f32 0xCCBEBC20#32 < univ.fold max ⊥ (kernelMasked z o) := by
  obtain ⟨t0, h0, hz⟩ := ho
  refine (lt_fold_max _).mpr (.inr ⟨t0, mem_univ _, ?_⟩)
  rw [kernelMasked_open h0]; exact hz

/-- The maximum of a row with every position masked is negative infinity. -/
theorem max_closed (ho : ∀ t, o t = 0#1) : univ.fold max ⊥ (kernelMasked z o) = ⊥ :=
  le_bot_iff.mp ((fold_max_le _).mpr ⟨bot_le, fun t _ => by rw [kernelMasked_closed (ho t)]⟩)

/-- The exponentials of a row are the same under either masking. -/
theorem exp_masked (M : EReal) (t : Fin n) :
    Ideal.exp (kernelMasked z o t - M) = Scalar.select (o t) (Ideal.exp (refMasked z o t - M)) 0 := by
  rcases word_cases (o t) with h | h
  · rw [kernelMasked_open h, refMasked_open h]; simp [Scalar.select, h]
  · rw [kernelMasked_closed h, sub_eq_add_neg, EReal.bot_add]; simp [Scalar.select, h]

/-- The row has an open position, or every one is masked. -/
theorem row_cases (o : Fin n → BitVec 1) : (∃ t, o t = 1#1) ∨ ∀ t, o t = 0#1 := by
  by_cases h : ∃ t, o t = 1#1
  · exact .inl h
  · exact .inr fun t => (word_cases (o t)).resolve_left fun ht => h ⟨t, ht⟩

/-- The disjunction of a row's mask words is set when one of them is. -/
theorem any_open (ho : ∃ t, o t = 1#1) : univ.fold IntOp.ori 0#1 o = 1#1 := by
  obtain ⟨t0, h0⟩ := ho
  rw [← insert_erase (mem_univ t0), fold_insert (by simp), h0]
  exact (by decide : ∀ w : BitVec 1, IntOp.ori 1#1 w = 1#1) _

/-- The disjunction of a row's mask words is not set when none of them is. -/
theorem any_closed (ho : ∀ t, o t = 0#1) : univ.fold IntOp.ori 0#1 o = 0#1 := by
  have : ∀ s : Finset (Fin n), s.fold IntOp.ori 0#1 o = 0#1 := by
    intro s
    induction s using Finset.induction_on with
    | empty => rfl
    | insert a s ha ih => rw [fold_insert ha, ih, ho a]; rfl
  exact this _

end Row

end Cert.Proof.Extended
-- ==== Proof.Reference.lean ====
/-
  The reference's results read at an index.
-/
module

public import proofs.«01_k».proof.Proof.Gen.ReferenceIdeal.Read
public import Idealize.ShloMosaic.Lib.Pointwise
public import proofs.«01_k».proof.Proof.Extended

@[expose] public section

set_option maxRecDepth 16384

noncomputable section

namespace Cert.Proof.Reference

open Idealize.ShloMosaic
open Cert.ReferenceIdeal Cert.ReferenceIdeal.Read

variable (x0 : FVec Ideal S128x2048x512 .f32) (x1 : IVec S128x2048 1)
  (x2 : FVec Ideal S8 .f32) (x3 : FVec Ideal S512x8 .f32)
  (x4 : FVec Ideal S8 .f32) (x5 : FVec Ideal S64x1 .f32)
  (x6 : FVec Ideal S1 .f32) (x7 : FVec Ideal S512 .f32)

/-- The temperature of a head. -/
theorem temp_at (h : Fin 8) : val_main_v3 (F := Ideal) x2 (ix1 h) = Extended.temperature (x2 (ix1 h)) := by
  unfold Extended.temperature
  pointwise [val_main_v3, val_main_v1, val_main_v2, val_main_cst, val_main_call0_cst, val_main_call0_v0, val_main_call0_v1,
    val_main_call0_v2, val_main_call0_v3, val_main_call0_v4, val_main_call0_v5, val_main_call0_v6, val_main_call0_v7,
    val_main_call0_v8, val_main_call0_v9, val_main_call0_v10, val_main_call0_v11]

/-- The logit of a position's head: the row's weighted sum and the bias over the temperature. -/
def logit (b : Fin 128) (h : Fin 8) (t : Fin 2048) : EReal :=
  Ideal.div (∑ k, x0 (ix3 b t k) * x3 (ix2 k h) + x4 (ix1 h)) (Extended.temperature (x2 (ix1 h)))

/-- Of each window with an open position, each head has an open logit above -1e8. -/
def Above : Prop := ∀ b h, (∃ t, x1 (ix2 b t) = 1#1) →
  ∃ t, x1 (ix2 b t) = 1#1 ∧ Ideal.ofBits .f32 0xCCBEBC20#32 < logit x0 x2 x3 x4 b h t

theorem logit_at (b : Fin 128) (t : Fin 2048) (h : Fin 8) :
    val_main_v10 (F := Ideal) x0 x2 x3 x4 (ix3 b t h) = logit x0 x2 x3 x4 b h t := by
  unfold logit
  rw [← temp_at]
  pointwise [val_main_v10, val_main_v9, val_main_v8, val_main_v7, val_main_v6, val_main_v5, val_main_v4]

theorem masked_at (b : Fin 128) (t : Fin 2048) (h : Fin 8) :
    val_main_v12 (F := Ideal) x0 x1 x2 x3 x4 (ix3 b t h)
      = Extended.refMasked (logit x0 x2 x3 x4 b h) (fun t => x1 (ix2 b t)) t := by
  unfold Extended.refMasked
  rw [← logit_at]
  pointwise [val_main_v12, val_main_call1_v1, val_main_v11, val_main_call1_v2, val_main_call1_v0, val_main_cst_0]
  rfl

theorem top_at (b : Fin 128) (h : Fin 8) :
    val_main_v13 (F := Ideal) x0 x1 x2 x3 x4 (ix2 b h)
      = Finset.univ.fold max ⊥ (Extended.refMasked (logit x0 x2 x3 x4 b h) fun t => x1 (ix2 b t)) := by
  pointwise [val_main_v13, val_main_cst_1]
  simp only [Extended.start_eq_bot, masked_at]

theorem expo_at (b : Fin 128) (t : Fin 2048) (h : Fin 8) :
    val_main_v18 (F := Ideal) x0 x1 x2 x3 x4 (ix3 b t h)
      = Scalar.select (x1 (ix2 b t)) (Ideal.exp (Extended.refMasked (logit x0 x2 x3 x4 b h) (fun t => x1 (ix2 b t)) t
          - val_main_v13 (F := Ideal) x0 x1 x2 x3 x4 (ix2 b h))) 0 := by
  rw [← masked_at]
  pointwise [val_main_v18, val_main_v17, val_main_v16, val_main_v15, val_main_v14, val_main_call2_v1, val_main_v11,
    val_main_call2_v2, val_main_call2_v0, val_main_cst_2]
  exact congrArg _ Ideal.ofBits_zero_f32

theorem mass_at (b : Fin 128) (h : Fin 8) :
    val_main_v19 (F := Ideal) x0 x1 x2 x3 x4 (ix2 b h) = ∑ t, val_main_v18 (F := Ideal) x0 x1 x2 x3 x4 (ix3 b t h) := by
  pointwise [val_main_v19, val_main_cst_3]

theorem pooled_at (b : Fin 128) (h : Fin 8) (e : Fin 64) :
    val_main_v25 (F := Ideal) x0 x1 x2 x3 x4 (ix3 b h e)
      = ∑ t, Ideal.div (val_main_v18 (F := Ideal) x0 x1 x2 x3 x4 (ix3 b t h))
          (val_main_v19 (F := Ideal) x0 x1 x2 x3 x4 (ix2 b h) + Ideal.ofBits .f32 0x358637BD#32)
        * x0 (ix3 b t ⟨h.val * 64 + e.val, by omega⟩) := by
  pointwise [val_main_v25, val_main_v24, val_main_v23, val_main_v22, val_main_v21, val_main_v20, val_main_cst_4, val_main_v0]

theorem any_at (b : Fin 128) :
    val_main_v30 (F := Ideal) x1 (ix1 b) = Finset.univ.fold IntOp.ori 0#1 fun t => x1 (ix2 b t) := by
  pointwise [val_main_v30, val_main_c]

theorem gate_at (b : Fin 128) (h : Fin 8) :
    val_main_v40 (F := Ideal) x0 x1 x2 x3 x4 x5 x6 (ix3 b h 0)
      = Ideal.logistic (∑ e, val_main_v25 (F := Ideal) x0 x1 x2 x3 x4 (ix3 b h e) * x5 (ix2 e 0) + x6 (ix1 0))
        * FloatOps.uitofp (F := Ideal) .f32 (val_main_v30 (F := Ideal) x1 (ix1 b)) := by
  pointwise [val_main_v40, val_main_v39, val_main_v38, val_main_v37, val_main_v36, val_main_v35, val_main_v34, val_main_v33,
    val_main_v32, val_main_v31, val_main_v29, val_main_v28, val_main_v27, val_main_v26, val_main_cst_5, val_main_cst_6]
  rfl

theorem vec_at (b : Fin 128) (d : Fin 512) :
    val_main_v54 (F := Ideal) x0 x1 x2 x3 x4 x7 (ix2 b d)
      = Ideal.div (val_main_v41 (F := Ideal) x0 x1 x2 x3 x4 (ix2 b d))
          (Ideal.sqrt (Ideal.div (∑ e, val_main_v41 (F := Ideal) x0 x1 x2 x3 x4 (ix2 b e)
              * val_main_v41 (F := Ideal) x0 x1 x2 x3 x4 (ix2 b e)) (Ideal.ofBits .f32 0x44000000#32)
            + Ideal.ofBits .f32 0x358637BD#32)) * x7 (ix1 d) := by
  pointwise [val_main_v54, val_main_v53, val_main_v52, val_main_v51, val_main_v50, val_main_v49, val_main_v48, val_main_v47,
    val_main_v46, val_main_v45, val_main_v44, val_main_v43, val_main_v42, val_main_cst_7, val_main_cst_8, val_main_cst_9]

theorem joined_at (b : Fin 128) (d : Fin 512) :
    val_main_v41 (F := Ideal) x0 x1 x2 x3 x4 (ix2 b d)
      = val_main_v25 (F := Ideal) x0 x1 x2 x3 x4 (ix3 b ⟨d.val / 64, by omega⟩ ⟨d.val % 64, by omega⟩) := by
  pointwise [val_main_v41]

theorem gateLanes_at (b : Fin 128) (d : Fin 512) :
    val_main_v58 (F := Ideal) x0 x1 x2 x3 x4 x5 x6 (ix2 b d)
      = val_main_v40 (F := Ideal) x0 x1 x2 x3 x4 x5 x6 (ix3 b ⟨d.val / 64, by omega⟩ 0) := by
  pointwise [val_main_v58, val_main_v57, val_main_v56, val_main_v55]

theorem gateRow_at (b : Fin 128) (h : Fin 8) :
    val_main_v59 (F := Ideal) x0 x1 x2 x3 x4 x5 x6 (ix2 b h)
      = val_main_v40 (F := Ideal) x0 x1 x2 x3 x4 x5 x6 (ix3 b h 0) := by
  pointwise [val_main_v59]

end Cert.Proof.Reference
-- ==== Proof.Pre.lean ====
/-
  What the precondition says of the logits.
-/
module

public import proofs.«01_k».proof.Pre_open_logit_above_threshold
public import proofs.«01_k».proof.Proof.Reference

@[expose] public section

set_option maxRecDepth 16384

noncomputable section

namespace Cert.Proof.Pre

open Idealize.ShloMosaic
open Cert.Pre_open_logit_above_threshold

variable [Facts] (x0 : FVec Ideal S128x2048x512 .f32) (x1 : IVec S128x2048 1) (x2 : FVec Ideal S8 .f32)
  (x3 : FVec Ideal S512x8 .f32) (x4 : FVec Ideal S8 .f32) (x5 : FVec Ideal S64x1 .f32) (x6 : FVec Ideal S1 .f32)
  (x7 : FVec Ideal S512 .f32)

/-- The temperature without its unmet case. -/
theorem temperature_eq (a : EReal) : Extended.temperature a
    = max a 0 + Ideal.log1p (Ideal.exp (-FloatOps.absf (F := Ideal) (φ := .f32) a)) + Ideal.ofBits .f32 0x3E99999A#32 := by
  unfold Extended.temperature; rw [if_neg (by simp)]

/-- The precondition of window `b` and head `h`: one of the open logits is above -1e8, or no position is open. -/
theorem fn_at (b : Fin 128) (h : Fin 8) :
    fn (F := Ideal) x0 x1 x2 x3 x4 x5 x6 x7 (ix2 b h)
      = IntOp.ori (Finset.univ.fold IntOp.ori 0#1 fun t => IntOp.andi (BitVec.ofBool (decide (Ideal.ofBits .f32 0xCCBEBC20#32
            < Reference.logit x0 x2 x3 x4 b h t))) (x1 (ix2 b t)))
          (~~~ Finset.univ.fold IntOp.ori 0#1 fun t => x1 (ix2 b t)) := by
  unfold Reference.logit
  simp only [temperature_eq]
  pointwise [fn, fn_part1]

/-- Two words' disjunction, the second complemented, is set and so is the second: the first is set. -/
theorem word_left : ∀ v w : BitVec 1, IntOp.ori v (~~~ w) = 1#1 → w = 1#1 → v = 1#1 := by decide

/-- Two words' conjunction is set: both are. -/
theorem word_both : ∀ v w : BitVec 1, IntOp.andi v w = 1#1 → v = 1#1 ∧ w = 1#1 := by decide

/-- A row of words whose disjunction is set has a set word. -/
theorem exists_of_any {n : ℕ} {o : Fin n → BitVec 1} (h : Finset.univ.fold IntOp.ori 0#1 o = 1#1) : ∃ t, o t = 1#1 :=
  (Extended.row_cases o).resolve_right fun hc => by rw [Extended.any_closed hc] at h; exact absurd h (by decide)

variable {x0 x1 x2 x3 x4 x5 x6 x7}

/-- Under the precondition, of each window with an open position each head has an open logit above -1e8. -/
theorem above (hp : fn (F := Ideal) x0 x1 x2 x3 x4 x5 x6 x7 = fun _ => 1#1) : Reference.Above x0 x1 x2 x3 x4 := by
  intro b h ho
  have h1 := (fn_at x0 x1 x2 x3 x4 x5 x6 x7 b h).symm.trans (congrFun hp (ix2 b h))
  obtain ⟨t, ht⟩ := exists_of_any (word_left _ _ h1 (Extended.any_open ho))
  obtain ⟨hl, hm⟩ := word_both _ _ ht
  refine ⟨t, hm, of_decide_eq_true ?_⟩
  revert hl
  cases decide (Ideal.ofBits .f32 0xCCBEBC20#32 < Reference.logit x0 x2 x3 x4 b h t) <;> simp

end Cert.Proof.Pre
-- ==== Proof.Host.lean ====
/-
  The operands that the host prepares for the kernel, read at an index, and the blocks of them that a grid point loads.
-/
module

public import proofs.«01_k».proof.Proof.Gen.KernelIdeal.Frame
public import Idealize.ShloMosaic.Lib.Claim
public import Idealize.ShloMosaic.Lib.StableHlo.ReadAt
public import Idealize.ShloMosaic.Lib.Pipeline.ValueKit
public import proofs.«01_k».proof.Proof.Extended

@[expose] public section

set_option maxRecDepth 16384

noncomputable section

namespace Cert.Proof.Host

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The rows. -/
abbrev rows : FVec Ideal S128x2048x512 .f32 := m ((c : Thread nD τ).loc main_arg0)
/-- The mask. -/
abbrev mask : IVec S128x2048 1 := m ((c : Thread nD τ).loc main_arg1)
/-- The raw temperatures. -/
abbrev temps : FVec Ideal S8 .f32 := m ((c : Thread nD τ).loc main_arg2)
/-- The salience weights. -/
abbrev weights : FVec Ideal S512x8 .f32 := m ((c : Thread nD τ).loc main_arg3)
/-- The salience biases. -/
abbrev biases : FVec Ideal S8 .f32 := m ((c : Thread nD τ).loc main_arg4)
/-- The gate's weights. -/
abbrev gateWeights : FVec Ideal S64x1 .f32 := m ((c : Thread nD τ).loc main_arg5)
/-- The gate's bias. -/
abbrev gateBias : FVec Ideal S1 .f32 := m ((c : Thread nD τ).loc main_arg6)
/-- The scale. -/
abbrev scale : FVec Ideal S512 .f32 := m ((c : Thread nD τ).loc main_arg7)

/-- The mask's numbers, by block and position, as the host hands them over. -/
def maskOp : FVec Ideal S32x1x8192 .f32 := V m c main_v10
/-- The weights over the temperatures. -/
def weightOp : FVec Ideal S512x8 .f32 := V m c main_v5
/-- The biases over the temperatures. -/
def biasOp : FVec Ideal S8x1 .f32 := V m c main_v7
/-- The gate's weights, on each head's own lanes. -/
def gateWeightOp : FVec Ideal S8x512 .f32 := V m c main_v23
/-- The gate's bias. -/
def gateBiasOp : FVec Ideal S1x1 .f32 := V m c main_v24
/-- The scale as a row. -/
def scaleOp : FVec Ideal S1x512 .f32 := V m c main_v25

/-- The mask's number of a position: zero where open, one where masked. -/
theorem maskOp_at (g : Fin 32) (k : Fin 8192) : maskOp m c (ix3 g 0 k)
    = Scalar.select (mask m c (ix2 ⟨g.val * 4 + k.val / 2048, by omega⟩ ⟨k.val % 2048, by omega⟩)) (0 : EReal) 1 := by
  unfold maskOp V
  after_reads_at
  rw [id]
  pointwise

theorem weightOp_at (k : Fin 512) (h : Fin 8) : weightOp m c (ix2 k h)
    = Ideal.div (weights m c (ix2 k h)) (Extended.temperature (temps m c (ix1 h))) := by
  unfold weightOp V Extended.temperature
  after_reads_at

theorem biasOp_at (h : Fin 8) : biasOp m c (ix2 h 0)
    = Ideal.div (biases m c (ix1 h)) (Extended.temperature (temps m c (ix1 h))) := by
  unfold biasOp V Extended.temperature
  after_reads_at

/-- A lane's head is the lane's number over the lanes of a head: the word that the host compares. -/
theorem lane_word : ∀ (h e : Fin 8), IntOp.cmpi CmpIPredicate.eq (IntOp.addi (BitVec.ofNat 32 h.val) 0#32)
    (BitVec.ofNat 32 e.val) = if e.val = h.val then 1#1 else 0#1 := by
  decide

/-- The gate's weights stand on each head's own lanes and are zero elsewhere. -/
theorem gateWeightOp_at (h : Fin 8) (d : Fin 512) : gateWeightOp m c (ix2 h d)
    = (if d.val / 64 = h.val then 1 else 0) * gateWeights m c (ix2 ⟨d.val % 64, by omega⟩ 0) := by
  unfold gateWeightOp V
  after_reads_at
  refine congrArg₂ _ ?_ rfl
  rw [lane_word h ⟨d.val / 64, by omega⟩]
  split <;> simp [FloatOps.uitofp]

theorem gateBiasOp_at : gateBiasOp m c (ix2 0 0) = gateBias m c (ix1 0) := by
  unfold gateBiasOp V
  after_reads_at

theorem scaleOp_at (d : Fin 512) : scaleOp m c (ix2 0 d) = scale m c (ix1 d) := by
  unfold scaleOp V
  after_reads_at

end Cert.Proof.Host
-- ==== Proof.Window.lean ====
/-
  One window of the kernel's body. The body treats the four windows of its block one after the other by the same
  operations; here those operations are written once, as functions of the window's masked logits `s` (head by position)
  and its rows `x` (position by feature), and the values that the body stores for each of the four are these.
-/
module

public import proofs.«01_k».proof.Proof.Gen.KernelIdeal.Frame
public import Idealize.ShloMosaic.Lib.Pipeline.ValueKit
public import proofs.«01_k».proof.Proof.Extended

@[expose] public section

set_option maxRecDepth 16384

noncomputable section

namespace Cert.Proof.Window

open Idealize.ShloMosaic
open Cert.KernelIdeal Cert.KernelIdeal.Gen Cert.KernelIdeal.Facts

/-- Each head's largest masked logit. -/
def top (s : FVec Ideal S8x2048 .f32) : FVec Ideal S8x1 .f32 :=
  shapeCast S8x1 (multiReduction .maximumf [1] S8 s 0xFF800000#32 reduces_S8x2048_S8 (.inl rfl) rfl) shapeCasts_S8_S8x1

/-- The exponentials of the logits less the largest. -/
def expo (s : FVec Ideal S8x2048 .f32) : FVec Ideal S8x2048 .f32 :=
  exp (subf s (broadcastTo S8x2048 (top s) broadcasts_S8x1_S8x2048))

/-- Each head's sum of exponentials. -/
def mass (s : FVec Ideal S8x2048 .f32) : FVec Ideal S8x1 .f32 :=
  shapeCast S8x1 (multiReduction .add [1] S8 (expo s) 0x00000000#32 reduces_S8x2048_S8 (.inl rfl) rfl) shapeCasts_S8_S8x1

/-- One where the head's largest logit lies above the threshold, zero elsewhere. -/
def valid (s : FVec Ideal S8x2048 .f32) : FVec Ideal S8x1 .f32 :=
  sitofp .f32 (extui 32 (cmpf .ogt (top s) (broadcast S8x1 (Scalar.ofBits .f32 0xCCBEBC20#32))) natLt_1_32)

/-- The pooled rows: every head's weighted sum of the window's rows, zero for a window that is not valid. -/
def pooled (s : FVec Ideal S8x2048 .f32) (x : FVec Ideal S1x2048x512 .f32) : FVec Ideal S8x512 .f32 :=
  mulf (divf (matmul dot_S8x2048_S2048x512_S8x512_1_0_0_1_n_n none (expo s)
        (shapeCast S2048x512 x shapeCasts_S1x2048x512_S2048x512 : FVec Ideal S2048x512 .f32) (constant S8x512 .f32 0x00000000#32))
      (broadcastTo S8x512 (addf (mass s) (broadcast S8x1 (Scalar.ofBits .f32 0x358637BD#32))) broadcasts_S8x1_S8x512))
    (broadcastTo S8x512 (valid s) broadcasts_S8x1_S8x512)

/-- Every head's gate. -/
def gate (s : FVec Ideal S8x2048 .f32) (x : FVec Ideal S1x2048x512 .f32) (wg : FVec Ideal S8x512 .f32)
    (bg : FVec Ideal S1x1 .f32) : FVec Ideal S8x1 .f32 :=
  mulf (logistic (addf
      (shapeCast S8x1 (multiReduction .add [1] S8
        (mulf (pooled s x) (shapeCast S8x512 wg shapeCasts_S8x512_S8x512)) 0x00000000#32 reduces_S8x512_S8 (.inl rfl) rfl)
        shapeCasts_S8_S8x1)
      (broadcast S8x1 (extractAt ![0, 0] bg inpos_S1x1_p0_0)))) (valid s)

/-- The heads' pooled rows, each cut to its own lanes `bd` and put side by side. -/
def joined (s : FVec Ideal S8x2048 .f32) (x : FVec Ideal S1x2048x512 .f32) (bd : FVec Ideal S8x512 .f32) :
    FVec Ideal S1x512 .f32 :=
  shapeCast S1x512 (multiReduction .add [0] S512 (mulf (pooled s x) bd) 0x00000000#32 reduces_S8x512_S512 (.inl rfl) rfl)
    shapeCasts_S512_S1x512

/-- What the body stores into the first result for the window: the joined row over its root mean square, scaled. -/
def vecOut (s : FVec Ideal S8x2048 .f32) (x : FVec Ideal S1x2048x512 .f32) (bd : FVec Ideal S8x512 .f32)
    (sc : FVec Ideal S1x512 .f32) : FVec Ideal S1x1x512 .f32 :=
  shapeCast S1x1x512 (shapeCast S512
    (mulf (mulf (joined s x bd)
      (broadcastTo S1x512 (rsqrt (addf
        (divf (shapeCast S1x1 (multiReduction .add [1] S1 (mulf (joined s x bd) (joined s x bd)) 0x00000000#32
            reduces_S1x512_S1 (.inl rfl) rfl) shapeCasts_S1_S1x1)
          (broadcast S1x1 (Scalar.ofBits .f32 0x44000000#32)))
        (broadcast S1x1 (Scalar.ofBits .f32 0x358637BD#32)))) broadcasts_S1x1_S1x512))
      (shapeCast S1x512 sc shapeCasts_S1x512_S1x512)) shapeCasts_S1x512_S512) shapeCasts_S512_S1x1x512

/-- What the body stores into the second result for the window: every lane its head's gate. -/
def gateLanes (u : FVec Ideal S8x1 .f32) (bd : FVec Ideal S8x512 .f32) : FVec Ideal S1x1x512 .f32 :=
  shapeCast S1x1x512 (multiReduction .add [0] S512 (mulf (broadcastTo S8x512 u broadcasts_S8x1_S8x512) bd) 0x00000000#32
    reduces_S8x512_S512 (.inl rfl) rfl) shapeCasts_S512_S1x1x512

/-- What the body stores into the third result for the window: the gates as one row. -/
def gateRow (u : FVec Ideal S8x1 .f32) : FVec Ideal S1x1x8 .f32 :=
  shapeCast S1x1x8 (shapeCast S8 u shapeCasts_S8x1_S8) shapeCasts_S8_S1x1x8

/-- Window 0's masked logits out of the block's. -/
def part0 (a : FVec Ideal S8x8192 .f32) : FVec Ideal S8x2048 .f32 :=
  extractStridedSlice S8x2048 ![0, 0] a slices_S8x8192_o0_0_S8x2048
/-- Window 1's. -/
def part1 (a : FVec Ideal S8x8192 .f32) : FVec Ideal S8x2048 .f32 :=
  extractStridedSlice S8x2048 ![0, 2048] a slices_S8x8192_o0_2048_S8x2048
/-- Window 2's. -/
def part2 (a : FVec Ideal S8x8192 .f32) : FVec Ideal S8x2048 .f32 :=
  extractStridedSlice S8x2048 ![0, 4096] a slices_S8x8192_o0_4096_S8x2048
/-- Window 3's. -/
def part3 (a : FVec Ideal S8x8192 .f32) : FVec Ideal S8x2048 .f32 :=
  extractStridedSlice S8x2048 ![0, 6144] a slices_S8x8192_o0_6144_S8x2048

/-! ## The twelve stored values are these -/

section Stored
variable (x0 : Vec Ideal S4x2048x512 .f32) (x1 : Vec Ideal S1x1x8192 .f32) (x2 : Vec Ideal S512x8 .f32)
  (x3 : Vec Ideal S8x1 .f32) (x4 : Vec Ideal S8x512 .f32) (x5 : Vec Ideal S1x1 .f32) (x6 : Vec Ideal S1x512 .f32)

/-- The block's masked logits. -/
abbrev logits : FVec Ideal S8x8192 .f32 := k0_pay50 x0 x1 x2 x3 x4 x5 x6
/-- The block's head lanes. -/
abbrev lanes : FVec Ideal S8x512 .f32 := k0_pay47 x0 x1 x2 x3 x4 x5 x6

theorem out7_stored : out0_7 x0 x1 x2 x3 x4 x5 x6 = View.canon [
    ⟨r0_17, vecOut (part3 (logits x0 x1 x2 x3 x4 x5 x6)) (View.ld x0 r0_16) (lanes x0 x1 x2 x3 x4 x5 x6) (View.ld x6 r0_7)⟩,
    ⟨r0_14, vecOut (part2 (logits x0 x1 x2 x3 x4 x5 x6)) (View.ld x0 r0_13) (lanes x0 x1 x2 x3 x4 x5 x6) (View.ld x6 r0_7)⟩,
    ⟨r0_11, vecOut (part1 (logits x0 x1 x2 x3 x4 x5 x6)) (View.ld x0 r0_10) (lanes x0 x1 x2 x3 x4 x5 x6) (View.ld x6 r0_7)⟩,
    ⟨r0_8, vecOut (part0 (logits x0 x1 x2 x3 x4 x5 x6)) (View.ld x0 r0_4) (lanes x0 x1 x2 x3 x4 x5 x6) (View.ld x6 r0_7)⟩] :=
  rfl

theorem out8_stored : out0_8 x0 x1 x2 x3 x4 x5 x6 = View.canon [
    ⟨r0_17, gateLanes (gate (part3 (logits x0 x1 x2 x3 x4 x5 x6)) (View.ld x0 r0_16) (View.ld x4 r0_5) (View.ld x5 r0_6)) (lanes x0 x1 x2 x3 x4 x5 x6)⟩,
    ⟨r0_14, gateLanes (gate (part2 (logits x0 x1 x2 x3 x4 x5 x6)) (View.ld x0 r0_13) (View.ld x4 r0_5) (View.ld x5 r0_6)) (lanes x0 x1 x2 x3 x4 x5 x6)⟩,
    ⟨r0_11, gateLanes (gate (part1 (logits x0 x1 x2 x3 x4 x5 x6)) (View.ld x0 r0_10) (View.ld x4 r0_5) (View.ld x5 r0_6)) (lanes x0 x1 x2 x3 x4 x5 x6)⟩,
    ⟨r0_8, gateLanes (gate (part0 (logits x0 x1 x2 x3 x4 x5 x6)) (View.ld x0 r0_4) (View.ld x4 r0_5) (View.ld x5 r0_6)) (lanes x0 x1 x2 x3 x4 x5 x6)⟩] :=
  rfl

theorem out9_stored : out0_9 x0 x1 x2 x3 x4 x5 x6 = View.canon [
    ⟨r0_18, gateRow (gate (part3 (logits x0 x1 x2 x3 x4 x5 x6)) (View.ld x0 r0_16) (View.ld x4 r0_5) (View.ld x5 r0_6))⟩,
    ⟨r0_15, gateRow (gate (part2 (logits x0 x1 x2 x3 x4 x5 x6)) (View.ld x0 r0_13) (View.ld x4 r0_5) (View.ld x5 r0_6))⟩,
    ⟨r0_12, gateRow (gate (part1 (logits x0 x1 x2 x3 x4 x5 x6)) (View.ld x0 r0_10) (View.ld x4 r0_5) (View.ld x5 r0_6))⟩,
    ⟨r0_9, gateRow (gate (part0 (logits x0 x1 x2 x3 x4 x5 x6)) (View.ld x0 r0_4) (View.ld x4 r0_5) (View.ld x5 r0_6))⟩] :=
  rfl

/-- A masked logit of the block: the head's weighted sum of the position's row, the head's bias, and negative infinity
    times the mask's number. -/
theorem logits_at (h : Fin 8) (b : Fin 4) (t : Fin 2048) :
    logits x0 x1 x2 x3 x4 x5 x6 (ix2 h ⟨b.val * 2048 + t.val, by omega⟩)
      = ∑ k, x2 (ix2 k h) * x0 (ix3 b t k) + x3 (ix2 h 0) + x1 (ix3 0 0 ⟨b.val * 2048 + t.val, by omega⟩) * ⊥ := by
  pointwise [logits, k0_pay50, k0_pay6, k0_pay48, k0_pay49, k0_pay4, k0_pay5]
  exact congrArg₂ _ rfl (congrArg₂ _ rfl (IdealRules.named_const.ideal_named_scalar κ "masked" _ _ rfl))

/-- The word that the body compares a lane's head with: the lane's number over the lanes of a head, rounded down. -/
theorem lane_word : ∀ (h : Fin 8) (d : Fin 512), (BitVec.setWidth 32
        (IntOp.cmpi CmpIPredicate.eq
          (Scalar.select
            (IntOp.andi
              (IntOp.cmpi CmpIPredicate.ne
                (IntOp.subi (BitVec.setWidth 32 (IntOp.cmpi CmpIPredicate.sgt (BitVec.ofNat 32 d.val) 0#32))
                  (BitVec.setWidth 32 (IntOp.cmpi CmpIPredicate.slt (BitVec.ofNat 32 d.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 d.val) 64#32) 0#32))
            (IntOp.subi (IntOp.divsi ArithUnit.vector (BitVec.ofNat 32 d.val) 64#32) 1#32)
            (IntOp.divsi ArithUnit.vector (BitVec.ofNat 32 d.val) 64#32))
          (BitVec.ofNat 32 h.val))) = if d.val / 64 = h.val then 1#32 else 0#32 := by
  decide +kernel

/-- A lane of a head is one on the head's own lanes and zero elsewhere. -/
theorem lanes_at (h : Fin 8) (d : Fin 512) :
    lanes x0 x1 x2 x3 x4 x5 x6 (ix2 h d) = if d.val / 64 = h.val then 1 else 0 := by
  pointwise [lanes, k0_pay47, k0_pay3]
  rw [lane_word h d]
  split <;> simp [FloatOps.sitofp]

end Stored

/-! ## The windows' parts of the block's logits, and the operations, at an index -/

theorem part0_at (a : FVec Ideal S8x8192 .f32) (h : Fin 8) (t : Fin 2048) :
    part0 a (ix2 h t) = a (ix2 h ⟨(0 : Fin 4).val * 2048 + t.val, by omega⟩) := by
  pointwise [part0]; blk_ext
theorem part1_at (a : FVec Ideal S8x8192 .f32) (h : Fin 8) (t : Fin 2048) :
    part1 a (ix2 h t) = a (ix2 h ⟨(1 : Fin 4).val * 2048 + t.val, by omega⟩) := by
  pointwise [part1]; blk_ext
theorem part2_at (a : FVec Ideal S8x8192 .f32) (h : Fin 8) (t : Fin 2048) :
    part2 a (ix2 h t) = a (ix2 h ⟨(2 : Fin 4).val * 2048 + t.val, by omega⟩) := by
  pointwise [part2]; blk_ext
theorem part3_at (a : FVec Ideal S8x8192 .f32) (h : Fin 8) (t : Fin 2048) :
    part3 a (ix2 h t) = a (ix2 h ⟨(3 : Fin 4).val * 2048 + t.val, by omega⟩) := by
  pointwise [part3]; blk_ext

section At
variable (s : FVec Ideal S8x2048 .f32) (x : FVec Ideal S1x2048x512 .f32) (bd wg : FVec Ideal S8x512 .f32)
  (bg : FVec Ideal S1x1 .f32) (sc : FVec Ideal S1x512 .f32) (u : FVec Ideal S8x1 .f32)

theorem top_at (h : Fin 8) : top s (ix2 h 0) = Finset.univ.fold max ⊥ fun t => s (ix2 h t) := by
  pointwise [top]
  rw [Extended.start_eq_bot]

theorem expo_at (h : Fin 8) (t : Fin 2048) : expo s (ix2 h t) = Ideal.exp (s (ix2 h t) - top s (ix2 h 0)) := by
  pointwise [expo]

theorem mass_at (h : Fin 8) : mass s (ix2 h 0) = ∑ t, expo s (ix2 h t) := by
  pointwise [mass]

theorem valid_at (h : Fin 8) :
    valid s (ix2 h 0) = if Ideal.ofBits .f32 0xCCBEBC20#32 < top s (ix2 h 0) then 1 else 0 := by
  pointwise [valid]
  split <;> simp [FloatOps.sitofp, *]

theorem pooled_at (h : Fin 8) (d : Fin 512) :
    pooled s x (ix2 h d) = Ideal.div (∑ t, expo s (ix2 h t) * x (ix3 0 t d))
      (mass s (ix2 h 0) + Ideal.ofBits .f32 0x358637BD#32) * valid s (ix2 h 0) := by
  pointwise [pooled]

theorem gate_at (h : Fin 8) :
    gate s x wg bg (ix2 h 0)
      = Ideal.logistic (∑ d, pooled s x (ix2 h d) * wg (ix2 h d) + bg (ix2 0 0)) * valid s (ix2 h 0) := by
  pointwise [gate]

theorem joined_at (d : Fin 512) : joined s x bd (ix2 0 d) = ∑ h, pooled s x (ix2 h d) * bd (ix2 h d) := by
  pointwise [joined]

theorem vecOut_at (d : Fin 512) :
    vecOut s x bd sc (ix3 0 0 d) = joined s x bd (ix2 0 d)
      * Ideal.rsqrt (Ideal.div (∑ e, joined s x bd (ix2 0 e) * joined s x bd (ix2 0 e)) (Ideal.ofBits .f32 0x44000000#32)
        + Ideal.ofBits .f32 0x358637BD#32) * sc (ix2 0 d) := by
  pointwise [vecOut]

theorem gateLanes_at (d : Fin 512) : gateLanes u bd (ix3 0 0 d) = ∑ h, u (ix2 h 0) * bd (ix2 h d) := by
  pointwise [gateLanes]

theorem gateRow_at (h : Fin 8) : gateRow u (ix3 0 0 h) = u (ix2 h 0) := by
  pointwise [gateRow]
end At

end Cert.Proof.Window
-- ==== Proof.Equation.lean ====
/-
  One window: what the kernel's body stores for it is the reference's row of that window.
-/
module

public import proofs.«01_k».proof.Proof.Window
public import proofs.«01_k».proof.Proof.Reference

@[expose] public section

set_option maxRecDepth 16384

noncomputable section

namespace Cert.Proof.Equation

open Idealize.ShloMosaic
open Cert.ReferenceIdeal Cert.ReferenceIdeal.Read

variable {x0 : FVec Ideal S128x2048x512 .f32} {x1 : IVec S128x2048 1}
  {x2 : FVec Ideal S8 .f32} {x3 : FVec Ideal S512x8 .f32}
  {x4 : FVec Ideal S8 .f32} {x5 : FVec Ideal S64x1 .f32}
  {x6 : FVec Ideal S1 .f32} {x7 : FVec Ideal S512 .f32} {b : Fin 128}
  {s : FVec Ideal Cert.KernelIdeal.S8x2048 .f32} {x : FVec Ideal Cert.KernelIdeal.S1x2048x512 .f32}
  {bd wg : FVec Ideal Cert.KernelIdeal.S8x512 .f32} {bg : FVec Ideal Cert.KernelIdeal.S1x1 .f32}
  {sc : FVec Ideal Cert.KernelIdeal.S1x512 .f32}

/-- The operands of the body's operations for window `b`, from the programs' arguments; of a window with an open
    position, each head has an open logit above the threshold. -/
structure Operands (x0 : FVec Ideal S128x2048x512 .f32) (x1 : IVec S128x2048 1) (x2 : FVec Ideal S8 .f32)
    (x3 : FVec Ideal S512x8 .f32) (x4 : FVec Ideal S8 .f32) (x5 : FVec Ideal S64x1 .f32) (x6 : FVec Ideal S1 .f32)
    (x7 : FVec Ideal S512 .f32) (b : Fin 128) (s : FVec Ideal Cert.KernelIdeal.S8x2048 .f32)
    (x : FVec Ideal Cert.KernelIdeal.S1x2048x512 .f32) (bd wg : FVec Ideal Cert.KernelIdeal.S8x512 .f32)
    (bg : FVec Ideal Cert.KernelIdeal.S1x1 .f32) (sc : FVec Ideal Cert.KernelIdeal.S1x512 .f32) : Prop where
  logits : ∀ h t, s (ix2 h t) = Extended.kernelMasked (Reference.logit x0 x2 x3 x4 b h) (fun t => x1 (ix2 b t)) t
  rows : ∀ t d, x (ix3 0 t d) = x0 (ix3 b t d)
  lanes : ∀ (h : Fin 8) (d : Fin 512), bd (ix2 h d) = if d.val / 64 = h.val then 1 else 0
  gateWeights : ∀ (h : Fin 8) (d : Fin 512),
    wg (ix2 h d) = (if d.val / 64 = h.val then 1 else 0) * x5 (ix2 ⟨d.val % 64, by omega⟩ 0)
  gateBias : bg (ix2 0 0) = x6 (ix1 0)
  scale : ∀ d, sc (ix2 0 d) = x7 (ix1 d)
  above : ∀ h, (∃ t, x1 (ix2 b t) = 1#1) →
    ∃ t, x1 (ix2 b t) = 1#1 ∧ Ideal.ofBits .f32 0xCCBEBC20#32 < Reference.logit x0 x2 x3 x4 b h t

section
variable (O : Operands x0 x1 x2 x3 x4 x5 x6 x7 b s x bd wg bg sc)
include O

/-- The kernel's largest logit of a head, in the operands. -/
theorem top_eq (h : Fin 8) : Window.top s (ix2 h 0)
    = Finset.univ.fold max ⊥ (Extended.kernelMasked (Reference.logit x0 x2 x3 x4 b h) fun t => x1 (ix2 b t)) := by
  rw [Window.top_at]; simp only [O.logits]

/-- For a window with an open position the two programs' exponentials are the same. -/
theorem expo_eq (ho : ∃ t, x1 (ix2 b t) = 1#1) (h : Fin 8) (t : Fin 2048) :
    Window.expo s (ix2 h t) = val_main_v18 (F := Ideal) x0 x1 x2 x3 x4 (ix3 b t h) := by
  rw [Window.expo_at, Reference.expo_at, O.logits, Extended.exp_masked, top_eq O, Reference.top_at,
    Extended.max_masked (O.above h ho)]

/-- So are their sums. -/
theorem mass_eq (ho : ∃ t, x1 (ix2 b t) = 1#1) (h : Fin 8) :
    Window.mass s (ix2 h 0) = val_main_v19 (F := Ideal) x0 x1 x2 x3 x4 (ix2 b h) := by
  rw [Window.mass_at, Reference.mass_at]; simp only [expo_eq O ho]

/-- A window with an open position is valid. -/
theorem valid_open (ho : ∃ t, x1 (ix2 b t) = 1#1) (h : Fin 8) : Window.valid s (ix2 h 0) = 1 := by
  rw [Window.valid_at, top_eq O, if_pos (Extended.threshold_lt_max (O.above h ho))]

/-- A window with every position masked is not. -/
theorem valid_closed (ho : ∀ t, x1 (ix2 b t) = 0#1) (h : Fin 8) : Window.valid s (ix2 h 0) = 0 := by
  rw [Window.valid_at, top_eq O, Extended.max_closed ho, if_neg not_lt_bot]

omit O in
/-- The reference's sum of exponentials, with the small number added, is positive. -/
theorem mass_pos (h : Fin 8) :
    0 < val_main_v19 (F := Ideal) x0 x1 x2 x3 x4 (ix2 b h) + Ideal.ofBits .f32 0x358637BD#32 := by
  refine lt_of_lt_of_le Extended.eps_pos (le_add_of_nonneg_left ?_)
  rw [Reference.mass_at]
  refine Finset.sum_nonneg fun t _ => ?_
  rw [Reference.expo_at]
  unfold Scalar.select
  split
  · exact Extended.exp_nonneg _
  · exact le_rfl

/-- The pooled rows: on a head's own lanes the kernel's are the reference's. -/
theorem pooled_eq (h : Fin 8) (e : Fin 64) :
    Window.pooled s x (ix2 h ⟨h.val * 64 + e.val, by omega⟩)
      = val_main_v25 (F := Ideal) x0 x1 x2 x3 x4 (ix3 b h e) := by
  rw [Window.pooled_at, Reference.pooled_at, Extended.div_weighted _ _ (mass_pos h)]
  rcases Extended.row_cases fun t => x1 (ix2 b t) with ho | ho
  · simp only [expo_eq O ho, mass_eq O ho, valid_open O ho, O.rows, mul_one]
  · have hp : ∀ t, val_main_v18 (F := Ideal) x0 x1 x2 x3 x4 (ix3 b t h) = 0 := fun t => by
      rw [Reference.expo_at]; simp [Scalar.select, ho t]
    simp only [hp, valid_closed O ho, mul_zero, zero_mul, Finset.sum_const_zero, Extended.div_of_pos (mass_pos h)]

/-- The gates. -/
theorem gate_eq (h : Fin 8) :
    Window.gate s x wg bg (ix2 h 0) = val_main_v40 (F := Ideal) x0 x1 x2 x3 x4 x5 x6 (ix3 b h 0) := by
  rw [Window.gate_at, Reference.gate_at, Reference.any_at, O.gateBias]
  have hs : ∑ d, Window.pooled s x (ix2 h d) * wg (ix2 h d)
      = ∑ e, val_main_v25 (F := Ideal) x0 x1 x2 x3 x4 (ix3 b h e) * x5 (ix2 e 0) := by
    rw [← Fin.sum_mul_add_fin 8 64 fun d => Window.pooled s x (ix2 h d) * wg (ix2 h d),
      Finset.sum_eq_single h]
    · refine Finset.sum_congr rfl fun e _ => ?_
      rw [pooled_eq O, O.gateWeights, if_pos (by simp only; omega), one_mul]
      congr 3
      exact Fin.ext (by simp only; omega)
    · intro h' _ hne
      refine Finset.sum_eq_zero fun e _ => ?_
      rw [O.gateWeights, if_neg (by simp only; have := Fin.val_ne_of_ne hne; omega), zero_mul, mul_zero]
    · simp
  rw [hs]
  rcases Extended.row_cases fun t => x1 (ix2 b t) with ho | ho
  · rw [valid_open O ho, Extended.any_open ho]; simp [FloatOps.uitofp]
  · rw [valid_closed O ho, Extended.any_closed ho]; simp [FloatOps.uitofp]

/-- The heads' rows side by side. -/
theorem joined_eq (d : Fin 512) :
    Window.joined s x bd (ix2 0 d) = val_main_v41 (F := Ideal) x0 x1 x2 x3 x4 (ix2 b d) := by
  rw [Window.joined_at, Reference.joined_at, Finset.sum_eq_single ⟨d.val / 64, by omega⟩]
  · rw [O.lanes, if_pos rfl, mul_one, ← pooled_eq O]
    congr 2
    exact Fin.ext (by simp only; omega)
  · intro h' _ hne
    rw [O.lanes, if_neg fun e => hne (Fin.ext e.symm), mul_zero]
  · simp

/-- The first result's row. -/
theorem vec_eq (d : Fin 512) :
    Window.vecOut s x bd sc (ix3 0 0 d) = val_main_v54 (F := Ideal) x0 x1 x2 x3 x4 x7 (ix2 b d) := by
  rw [Window.vecOut_at, Reference.vec_at, Extended.mul_rsqrt _ (Extended.meanSquare_pos _), O.scale]
  simp only [joined_eq O]

/-- The second result's row. -/
theorem gateLanes_eq (d : Fin 512) :
    Window.gateLanes (Window.gate s x wg bg) bd (ix3 0 0 d)
      = val_main_v58 (F := Ideal) x0 x1 x2 x3 x4 x5 x6 (ix2 b d) := by
  rw [Window.gateLanes_at, Reference.gateLanes_at, Finset.sum_eq_single ⟨d.val / 64, by omega⟩]
  · rw [O.lanes, if_pos rfl, mul_one, gate_eq O]
  · intro h' _ hne
    rw [O.lanes, if_neg fun e => hne (Fin.ext e.symm), mul_zero]
  · simp

/-- The third result's row. -/
theorem gateRow_eq (h : Fin 8) :
    Window.gateRow (Window.gate s x wg bg) (ix3 0 0 h)
      = val_main_v59 (F := Ideal) x0 x1 x2 x3 x4 x5 x6 (ix2 b h) := by
  rw [Window.gateRow_at, Reference.gateRow_at, gate_eq O]

end

end Cert.Proof.Equation
-- ==== Proof.Block.lean ====
/-
  The blocks that a grid point loads, and one grid point's stored rows.
-/
module

public import proofs.«01_k».proof.Proof.Host
public import proofs.«01_k».proof.Proof.Equation

@[expose] public section

set_option maxRecDepth 16384

noncomputable section

namespace Cert.Proof.Block

open Idealize.ShloMosaic Idealize.ShloMosaic.TcCoe Idealize.SL.Sem
open Idealize.ShloMosaic.Pipeline (Dat)
open Cert.KernelIdeal Cert.KernelIdeal.Gen
open Cert.Proof.Host

variable (m : (ℓ : Loc nD τ sig) → Buf (Elt Ideal) ℓ) (c : Dev nD)

/-- The windows' index maps: the rows, the mask and the results move with the grid point, the other operands stay. -/
theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0]
    ∧ win0_6.index t = ![0, 0] ∧ win0_7.index t = ![t.val, 0, 0] ∧ win0_8.index t = ![t.val, 0, 0]
    ∧ win0_9.index t = ![t.val, 0, 0] :=
  (by decide +kernel : ∀ t : Fin grid0.N, _)

theorem point_lt (t : Fin cfg0.N) : t.val < 32 := lt_of_lt_of_eq t.isLt N_0

variable (t : Fin cfg0.N)

theorem rows_at (j : Fin 4) (k : Fin 2048) (d : Fin 512) :
    (iblk m c 0 t : FVec Ideal S4x2048x512 .f32) (ix3 j k d)
      = rows m c (ix3 ⟨t.val * 4 + j.val, by have := point_lt t; omega⟩ k d) := by
  blk_ext [iblk, V, idx t]
theorem mask_at (k : Fin 8192) :
    (iblk m c 1 t : FVec Ideal S1x1x8192 .f32) (ix3 0 0 k) = maskOp m c (ix3 ⟨t.val, point_lt t⟩ 0 k) := by
  unfold maskOp
  blk_ext [iblk, idx t]
theorem weight_at (k : Fin 512) (h : Fin 8) :
    (iblk m c 2 t : FVec Ideal S512x8 .f32) (ix2 k h) = weightOp m c (ix2 k h) := by
  unfold weightOp
  blk_ext [iblk, idx t]
theorem bias_at (h : Fin 8) : (iblk m c 3 t : FVec Ideal S8x1 .f32) (ix2 h 0) = biasOp m c (ix2 h 0) := by
  unfold biasOp
  blk_ext [iblk, idx t]
theorem gateWeight_at (h : Fin 8) (d : Fin 512) :
    (iblk m c 4 t : FVec Ideal S8x512 .f32) (ix2 h d) = gateWeightOp m c (ix2 h d) := by
  unfold gateWeightOp
  blk_ext [iblk, idx t]
theorem gateBias_at : (iblk m c 5 t : FVec Ideal S1x1 .f32) (ix2 0 0) = gateBiasOp m c (ix2 0 0) := by
  unfold gateBiasOp
  blk_ext [iblk, idx t]
theorem scale_at (d : Fin 512) : (iblk m c 6 t : FVec Ideal S1x512 .f32) (ix2 0 d) = scaleOp m c (ix2 0 d) := by
  unfold scaleOp
  blk_ext [iblk, idx t]

section
variable (x0 : Vec Ideal S4x2048x512 .f32) (x4 : Vec Ideal S8x512 .f32) (x5 : Vec Ideal S1x1 .f32)
  (x6 : Vec Ideal S1x512 .f32) (k : Fin 2048) (d : Fin 512)
theorem slab0_at : View.ld x0 r0_4 (ix3 0 k d) = x0 (ix3 0 k d) :=
  View.ld_unit_apply_of _ _ _ _ _ _ fun a => by fin_cases a <;> simp
theorem slab1_at : View.ld x0 r0_10 (ix3 0 k d) = x0 (ix3 1 k d) :=
  View.ld_unit_apply_of _ _ _ _ _ _ fun a => by fin_cases a <;> simp
theorem slab2_at : View.ld x0 r0_13 (ix3 0 k d) = x0 (ix3 2 k d) :=
  View.ld_unit_apply_of _ _ _ _ _ _ fun a => by fin_cases a <;> simp
theorem slab3_at : View.ld x0 r0_16 (ix3 0 k d) = x0 (ix3 3 k d) :=
  View.ld_unit_apply_of _ _ _ _ _ _ fun a => by fin_cases a <;> simp
theorem whole4_at (h : Fin 8) : View.ld x4 r0_5 (ix2 h d) = x4 (ix2 h d) :=
  View.ld_unit_apply_of _ _ _ _ _ _ fun a => by fin_cases a <;> simp
theorem whole5_at : View.ld x5 r0_6 (ix2 0 0) = x5 (ix2 0 0) :=
  View.ld_unit_apply_of _ _ _ _ _ _ fun a => by fin_cases a <;> simp
theorem whole6_at : View.ld x6 r0_7 (ix2 0 d) = x6 (ix2 0 d) :=
  View.ld_unit_apply_of _ _ _ _ _ _ fun a => by fin_cases a <;> simp
end

/-- Grid point `t`'s masked logits. -/
abbrev pointLogits : FVec Ideal S8x8192 .f32 :=
  Window.logits (iblk m c 0 t) (iblk m c 1 t) (iblk m c 2 t) (iblk m c 3 t) (iblk m c 4 t) (iblk m c 5 t) (iblk m c 6 t)

/-- The logits `s` and the rows `x` are those of the batch's window `4 t + j`, and so are the other operands that grid point
    `t` loads. -/
abbrev PointOperands (j : Fin 4) (s : FVec Ideal S8x2048 .f32) (x : FVec Ideal S1x2048x512 .f32) : Prop :=
  Equation.Operands (rows m c) (mask m c) (temps m c) (weights m c) (biases m c) (gateWeights m c) (gateBias m c)
    (scale m c) ⟨t.val * 4 + j.val, by have := point_lt t; omega⟩ s x
    (Window.lanes (iblk m c 0 t) (iblk m c 1 t) (iblk m c 2 t) (iblk m c 3 t) (iblk m c 4 t) (iblk m c 5 t) (iblk m c 6 t))
    (View.ld (iblk m c 4 t) r0_5) (View.ld (iblk m c 5 t) r0_6) (View.ld (iblk m c 6 t) r0_7)

/-- The operands of window `j` of grid point `t`, given which logits and which rows of the block its part of the body takes:
    they are those of the batch's window `4 t + j`. -/
theorem operands (j : Fin 4) {s : FVec Ideal S8x2048 .f32} {x : FVec Ideal S1x2048x512 .f32}
    (hs : ∀ h k, s (ix2 h k) = pointLogits m c t (ix2 h ⟨j.val * 2048 + k.val, by omega⟩))
    (hx : ∀ k d, x (ix3 0 k d) = (iblk m c 0 t : FVec Ideal S4x2048x512 .f32) (ix3 j k d))
    (hz : Reference.Above (rows m c) (mask m c) (temps m c) (weights m c) (biases m c)) :
    PointOperands m c t j s x where
  logits h k := by
    rw [hs, pointLogits, Window.logits_at, Extended.kernelMasked, Reference.logit, ← Extended.div_logit _ _ _ (Extended.temperature_pos _)]
    refine congrArg₂ (· + ·) (congrArg₂ (· + ·) (Finset.sum_congr rfl fun k' _ => ?_) ?_) (congrArg (· * ⊥) ?_)
    · exact congrArg₂ (· * ·) ((weight_at m c t k' h).trans (weightOp_at m c k' h)) (rows_at m c t j k k')
    · exact (bias_at m c t h).trans (biasOp_at m c h)
    · refine (mask_at m c t _).trans ((maskOp_at m c _ _).trans ?_)
      have e : (⟨t.val * 4 + (j.val * 2048 + k.val) / 2048, by have := point_lt t; omega⟩ : Fin 128)
          = ⟨t.val * 4 + j.val, by have := point_lt t; omega⟩ := Fin.ext (by simp only; omega)
      have e' : (⟨(j.val * 2048 + k.val) % 2048, by omega⟩ : Fin 2048) = k := Fin.ext (by simp only; omega)
      exact congrArg₂ (fun a b => Scalar.select (mask m c (ix2 a b)) (0 : EReal) 1) e e'
  rows k d := by rw [hx, rows_at]
  lanes h d := Window.lanes_at _ _ _ _ _ _ _ h d
  gateWeights h d := (whole4_at _ d h).trans ((gateWeight_at m c t h d).trans (gateWeightOp_at m c h d))
  gateBias := (whole5_at _).trans ((gateBias_at m c t).trans (gateBiasOp_at m c))
  scale d := (whole6_at _ d).trans ((scale_at m c t d).trans (scaleOp_at m c d))
  above h := hz _ h

end Cert.Proof.Block
-- ==== Proof.Array.lean ====
/-
  The kernel's result arrays after the run.
-/
module

public import proofs.«01_k».proof.Proof.Block

@[expose] public section

set_option maxRecDepth 16384

noncomputable section

namespace Cert.Proof.Array

open Idealize.ShloMosaic Idealize.ShloMosaic.TcCoe Idealize.SL.Sem
open Idealize.ShloMosaic.Pipeline (Dat)
open Cert.KernelIdeal Cert.KernelIdeal.Gen
open Cert.Proof.Host Cert.Proof.Block

variable (m : (ℓ : Loc nD τ sig) → Buf (Elt Ideal) ℓ) (c : Dev nD)

/-- The reference's first result over the kernel's arguments. -/
abbrev refVec : FVec Ideal S128x512 .f32 :=
  Cert.ReferenceIdeal.Read.val_main_v54 (F := Ideal) (rows m c) (mask m c) (temps m c) (weights m c) (biases m c) (scale m c)
/-- Its second. -/
abbrev refLanes : FVec Ideal S128x512 .f32 :=
  Cert.ReferenceIdeal.Read.val_main_v58 (F := Ideal) (rows m c) (mask m c) (temps m c) (weights m c) (biases m c)
    (gateWeights m c) (gateBias m c)
/-- Its third. -/
abbrev refGates : FVec Ideal S128x8 .f32 :=
  Cert.ReferenceIdeal.Read.val_main_v59 (F := Ideal) (rows m c) (mask m c) (temps m c) (weights m c) (biases m c)
    (gateWeights m c) (gateBias m c)

/-- The first result before its reshape: block `g`'s row `j` is the reference's row `4 g + j`. -/
def vecArr : FVec Ideal S32x4x512 .f32 := fun i =>
  refVec m c (ix2 ⟨(i 0).val * 4 + (i 1).val, by have h0 : (i 0).val < 32 := (i 0).isLt; have h1 : (i 1).val < 4 := (i 1).isLt; omega⟩ (i 2))
/-- The second. -/
def lanesArr : FVec Ideal S32x4x512 .f32 := fun i =>
  refLanes m c (ix2 ⟨(i 0).val * 4 + (i 1).val, by have h0 : (i 0).val < 32 := (i 0).isLt; have h1 : (i 1).val < 4 := (i 1).isLt; omega⟩ (i 2))
/-- The third. -/
def gatesArr : FVec Ideal S32x4x8 .f32 := fun i =>
  refGates m c (ix2 ⟨(i 0).val * 4 + (i 1).val, by have h0 : (i 0).val < 32 := (i 0).isLt; have h1 : (i 1).val < 4 := (i 1).isLt; omega⟩ (i 2))

theorem vecArr_at {t : Fin cfg0.N} {j : Fin 4} {d : Fin 512} {i : S32x4x512.Idx} (h0 : (i 0).val = t.val)
    (h1 : (i 1).val = j.val) (h2 : (i 2).val = d.val) :
    refVec m c (ix2 ⟨t.val * 4 + j.val, by have := point_lt t; omega⟩ d) = vecArr m c i :=
  congrArg₂ (fun a b => refVec m c (ix2 a b)) (Fin.ext (by simp only; omega)) (Fin.ext h2.symm)
theorem lanesArr_at {t : Fin cfg0.N} {j : Fin 4} {d : Fin 512} {i : S32x4x512.Idx} (h0 : (i 0).val = t.val)
    (h1 : (i 1).val = j.val) (h2 : (i 2).val = d.val) :
    refLanes m c (ix2 ⟨t.val * 4 + j.val, by have := point_lt t; omega⟩ d) = lanesArr m c i :=
  congrArg₂ (fun a b => refLanes m c (ix2 a b)) (Fin.ext (by simp only; omega)) (Fin.ext h2.symm)
theorem gatesArr_at {t : Fin cfg0.N} {j : Fin 4} {d : Fin 8} {i : S32x4x8.Idx} (h0 : (i 0).val = t.val)
    (h1 : (i 1).val = j.val) (h2 : (i 2).val = d.val) :
    refGates m c (ix2 ⟨t.val * 4 + j.val, by have := point_lt t; omega⟩ d) = gatesArr m c i :=
  congrArg₂ (fun a b => refGates m c (ix2 a b)) (Fin.ext (by simp only; omega)) (Fin.ext h2.symm)

section
variable (hz : Reference.Above (rows m c) (mask m c) (temps m c) (weights m c) (biases m c))
include hz

section
variable (t : Fin cfg0.N)
theorem operands0 : PointOperands m c t 0 (Window.part0 (pointLogits m c t)) (View.ld (iblk m c 0 t) r0_4) :=
  operands m c t 0 (fun h k => Window.part0_at _ h k) (fun k d => slab0_at _ k d) hz
theorem operands1 : PointOperands m c t 1 (Window.part1 (pointLogits m c t)) (View.ld (iblk m c 0 t) r0_10) :=
  operands m c t 1 (fun h k => Window.part1_at _ h k) (fun k d => slab1_at _ k d) hz
theorem operands2 : PointOperands m c t 2 (Window.part2 (pointLogits m c t)) (View.ld (iblk m c 0 t) r0_13) :=
  operands m c t 2 (fun h k => Window.part2_at _ h k) (fun k d => slab2_at _ k d) hz
theorem operands3 : PointOperands m c t 3 (Window.part3 (pointLogits m c t)) (View.ld (iblk m c 0 t) r0_16) :=
  operands m c t 3 (fun h k => Window.part3_at _ h k) (fun k d => slab3_at _ k d) hz
end

/-- The first result array after the run. -/
theorem vec_final : (dats m 0 c).arrAt 7 (cfgs 0).N = vecArr m c := by
  refine (dats m 0 c).arrAt_eq_of_covers 7 _ (by decide +kernel) fun t hf y => ?_
  blk_simp
  rw [after0_7, Window.out7_stored]
  canon_tiles x h
  all_goals obtain ⟨d, rfl⟩ : ∃ d : Fin 512, x = ix3 0 0 d := ⟨x 2, by blk_ext⟩
  · exact (Equation.vec_eq (operands3 m c hz t) d).trans ((vecArr_at m c (t := t) (j := 3) (by blk_simp [idx t])
      (by blk_simp [idx t]; exact h1) (by blk_simp [idx t]; exact h2)))
  · exact (Equation.vec_eq (operands2 m c hz t) d).trans ((vecArr_at m c (t := t) (j := 2) (by blk_simp [idx t])
      (by blk_simp [idx t]; exact h1) (by blk_simp [idx t]; exact h2)))
  · exact (Equation.vec_eq (operands1 m c hz t) d).trans ((vecArr_at m c (t := t) (j := 1) (by blk_simp [idx t])
      (by blk_simp [idx t]; exact h1) (by blk_simp [idx t]; exact h2)))
  · exact (Equation.vec_eq (operands0 m c hz t) d).trans ((vecArr_at m c (t := t) (j := 0) (by blk_simp [idx t])
      (by blk_simp [idx t]; exact h1) (by blk_simp [idx t]; exact h2)))

/-- The second result array after the run. -/
theorem lanes_final : (dats m 0 c).arrAt 8 (cfgs 0).N = lanesArr m c := by
  refine (dats m 0 c).arrAt_eq_of_covers 8 _ (by decide +kernel) fun t hf y => ?_
  blk_simp
  rw [after0_8, Window.out8_stored]
  canon_tiles x h
  all_goals obtain ⟨d, rfl⟩ : ∃ d : Fin 512, x = ix3 0 0 d := ⟨x 2, by blk_ext⟩
  · exact (Equation.gateLanes_eq (operands3 m c hz t) d).trans ((lanesArr_at m c (t := t) (j := 3) (by blk_simp [idx t])
      (by blk_simp [idx t]; exact h1) (by blk_simp [idx t]; exact h2)))
  · exact (Equation.gateLanes_eq (operands2 m c hz t) d).trans ((lanesArr_at m c (t := t) (j := 2) (by blk_simp [idx t])
      (by blk_simp [idx t]; exact h1) (by blk_simp [idx t]; exact h2)))
  · exact (Equation.gateLanes_eq (operands1 m c hz t) d).trans ((lanesArr_at m c (t := t) (j := 1) (by blk_simp [idx t])
      (by blk_simp [idx t]; exact h1) (by blk_simp [idx t]; exact h2)))
  · exact (Equation.gateLanes_eq (operands0 m c hz t) d).trans ((lanesArr_at m c (t := t) (j := 0) (by blk_simp [idx t])
      (by blk_simp [idx t]; exact h1) (by blk_simp [idx t]; exact h2)))

/-- The third result array after the run. -/
theorem gates_final : (dats m 0 c).arrAt 9 (cfgs 0).N = gatesArr m c := by
  refine (dats m 0 c).arrAt_eq_of_covers 9 _ (by decide +kernel) fun t hf y => ?_
  blk_simp
  rw [after0_9, Window.out9_stored]
  canon_tiles x h
  all_goals obtain ⟨d, rfl⟩ : ∃ d : Fin 8, x = ix3 0 0 d := ⟨x 2, by blk_ext⟩
  · exact (Equation.gateRow_eq (operands3 m c hz t) d).trans ((gatesArr_at m c (t := t) (j := 3) (by blk_simp [idx t])
      (by blk_simp [idx t]; exact h1) (by blk_simp [idx t]; exact h2)))
  · exact (Equation.gateRow_eq (operands2 m c hz t) d).trans ((gatesArr_at m c (t := t) (j := 2) (by blk_simp [idx t])
      (by blk_simp [idx t]; exact h1) (by blk_simp [idx t]; exact h2)))
  · exact (Equation.gateRow_eq (operands1 m c hz t) d).trans ((gatesArr_at m c (t := t) (j := 1) (by blk_simp [idx t])
      (by blk_simp [idx t]; exact h1) (by blk_simp [idx t]; exact h2)))
  · exact (Equation.gateRow_eq (operands0 m c hz t) d).trans ((gatesArr_at m c (t := t) (j := 0) (by blk_simp [idx t])
      (by blk_simp [idx t]; exact h1) (by blk_simp [idx t]; exact h2)))

end

end Cert.Proof.Array
-- ==== Proof.Results.lean ====
/-
  The kernel's results after the run are the reference's over the same arguments.
-/
module

public import proofs.«01_k».proof.Proof.Array

@[expose] public section

set_option maxRecDepth 16384

noncomputable section

namespace Cert.Proof.Results

open Idealize.ShloMosaic Idealize.ShloMosaic.TcCoe Idealize.SL.Sem
open Idealize.ShloMosaic.Pipeline (Dat)
open Cert.KernelIdeal Cert.KernelIdeal.Gen
open Cert.Proof.Host Cert.Proof.Array

variable (m : (ℓ : Loc nD τ sig) → Buf (Elt Ideal) ℓ) (c : Dev nD)

/-- A [128, 512] array's rows, four to a block, joined again, are the array. -/
theorem joined512 (R : FVec Ideal S128x512 .f32) :
    shapeCast S128x512 (fun i : S32x4x512.Idx => R (ix2 ⟨(i 0).val * 4 + (i 1).val, by
      have h0 : (i 0).val < 32 := (i 0).isLt; have h1 : (i 1).val < 4 := (i 1).isLt; omega⟩ (i 2)))
      shapeCasts_S32x4x512_S128x512 = R := by
  funext i
  obtain ⟨b, d, rfl⟩ : ∃ b d, i = ix2 b d := ⟨i 0, i 1, by funext a; fin_cases a <;> rfl⟩
  pointwise []
  exact congrArg (fun k => R (ix2 k d)) (Fin.ext (by simp only; omega))

/-- A [128, 8] array's rows, four to a block, joined again, are the array. -/
theorem joined8 (R : FVec Ideal S128x8 .f32) :
    shapeCast S128x8 (fun i : S32x4x8.Idx => R (ix2 ⟨(i 0).val * 4 + (i 1).val, by
      have h0 : (i 0).val < 32 := (i 0).isLt; have h1 : (i 1).val < 4 := (i 1).isLt; omega⟩ (i 2)))
      shapeCasts_S32x4x8_S128x8 = R := by
  funext i
  obtain ⟨b, d, rfl⟩ : ∃ b d, i = ix2 b d := ⟨i 0, i 1, by funext a; fin_cases a <;> rfl⟩
  pointwise []
  exact congrArg (fun k => R (ix2 k d)) (Fin.ext (by simp only; omega))

section
variable (hz : Reference.Above (rows m c) (mask m c) (temps m c) (weights m c) (biases m c))
include hz

/-- The first result is the reference's written rows. -/
theorem vec_tail : Pipeline.afterTail₀ cfgs (dats m) 0 (V0 m) [hostOps1] c main_v27 = refVec m c := by
  unfold Pipeline.afterTail₀
  after_reads_simp
  funext i
  exact (congrFun (congrArg (fun a => shapeCast _ a _)
    ((Pipeline.withArrays_arr (cfgs 0).spec launch0.win.arr_inj c (V0 m c) _ 7).trans (vec_final m c hz))) i).trans
    (congrFun (joined512 (refVec m c)) i)

/-- The second result is the reference's gates spread over the lanes. -/
theorem lanes_tail : Pipeline.afterTail₀ cfgs (dats m) 0 (V0 m) [hostOps1] c main_v28 = refLanes m c := by
  unfold Pipeline.afterTail₀
  after_reads_simp
  funext i
  exact (congrFun (congrArg (fun a => shapeCast _ a _)
    ((Pipeline.withArrays_arr (cfgs 0).spec launch0.win.arr_inj c (V0 m c) _ 8).trans (lanes_final m c hz))) i).trans
    (congrFun (joined512 (refLanes m c)) i)

/-- The third result is the reference's gates. -/
theorem gates_tail : Pipeline.afterTail₀ cfgs (dats m) 0 (V0 m) [hostOps1] c main_v29 = refGates m c := by
  unfold Pipeline.afterTail₀
  after_reads_simp
  funext i
  exact (congrFun (congrArg (fun a => shapeCast _ a _)
    ((Pipeline.withArrays_arr (cfgs 0).spec launch0.win.arr_inj c (V0 m c) _ 9).trans (gates_final m c hz))) i).trans
    (congrFun (joined8 (refGates m c)) i)

end

/-- Where each window with an open position has an open logit above -1e8 in each head, the kernel ends with the
    reference's three results and its arguments as they were. -/
theorem kernel_run (ρ : Dev nD → PrngReg)
    (hz : ∀ c, Reference.Above (rows m c) (mask m c) (temps m c) (weights m c) (biases m c)) :
    θ_run defs (onTc (τ := τ) (main (F := Ideal))) ⟨m, fun _ => 0, ρ⟩ fun r => ∀ c : Dev nD,
      r.2.mem ((c.tc : Thread nD τ).loc main_v27) = refVec m c
      ∧ r.2.mem ((c.tc : Thread nD τ).loc main_v28) = refLanes m c
      ∧ r.2.mem ((c.tc : Thread nD τ).loc main_v29) = refGates m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.1 c).2 main_v27 (by decide)).trans (vec_tail m c (hz c)),
      ((h.1 c).2 main_v28 (by decide)).trans (lanes_tail m c (hz c)),
      ((h.1 c).2 main_v29 (by decide)).trans (gates_tail m c (hz c)), h.2 c⟩)
    (θ_run_and (run_main m ρ) (unchanged m ρ))

end Cert.Proof.Results
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.Results
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The side conditions of the precondition's operations. -/
theorem preFacts : Cert.Pre_open_logit_above_threshold.Facts where
  bcast_S_S8 := by decide
  bcast_S8_S1x1x8_2 := by decide
  bcast_S1x1x8_S128x2048x8_0_1_2 := by decide
  bcast_S_S128x2048x8 := by decide
  bcast_S128x2048_S128x2048x1_0_1 := by decide
  bcast_S128x2048x1_S128x2048x8_0_1_2 := by decide
  reducesTo_S128x2048x8_S128x8_d1 := by decide
  h_S_ := by decide
  reducesTo_S128x2048_S128_d1 := by decide
  bcast_S128_S128x1_0 := by decide
  bcast_S128x1_S128x8_0_1 := by decide
  dot_S128x2048x512_S512x8_S128x2048x8_2_0_01_1_n_n_wf := by decide

/-- The idealized reference runs, its arguments end unchanged and every counter ends at zero. -/
theorem reference_frame : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The frames, the refinement of the named constant, and the equality of the kernel's three results with the
    reference's where each window with an open position has an open logit above -1e8 in each head. -/
theorem claim : Cert.Claim := by
  refine ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g, reference_frame, fun m g _ => reference_frame m g trivial,
    IdealRules.named_const.statement Cert.KernelIdeal.κ "masked" .f32 0xCE6E6B28#32 ⊥ rfl, ?_⟩
  intro m g m' g' hp he
  letI := preFacts
  refine ⟨Array.refVec m, Array.refLanes m, Array.refGates m, Results.kernel_run m g fun c => Pre.above (hp c), ?_⟩
  refine (θ_run Cert.ReferenceIdeal.defs _ _).mono (fun r h c => ?_) (Cert.ReferenceIdeal.Value.run (F := Ideal) m' g')
  obtain ⟨e0, e1, e2, e3, e4, e5, e6, e7⟩ := he c
  refine ⟨(h c).1.trans ?_, (h c).2.1.trans ?_, (h c).2.2.1.trans ?_, (h c).2.2.2⟩
  · rw [Cert.ReferenceIdeal.Read.val_main_v54_eq, e0, e1, e2, e3, e4, e7]
  · rw [Cert.ReferenceIdeal.Read.val_main_v58_eq, e0, e1, e2, e3, e4, e5, e6]
  · rw [Cert.ReferenceIdeal.Read.val_main_v59_eq, e0, e1, e2, e3, e4, e5, e6]

end Cert.Proof

end
